-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v158) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)) (v3 : (c : Dev Cert.Kernel6Ideal.nD) → Buf (Elt Ideal) ((c.tc : Thread Cert.Kernel6Ideal.nD Cert.Kernel6Ideal.τ).loc Cert.Kernel6Ideal.main_v11_3)) (v4 : (c : Dev Cert.Kernel6Ideal.nD) → Buf (Elt Ideal) ((c.tc : Thread Cert.Kernel6Ideal.nD Cert.Kernel6Ideal.τ).loc Cert.Kernel6Ideal.main_v11_4)) (v5 : (c : Dev Cert.Kernel6Ideal.nD) → Buf (Elt Ideal) ((c.tc : Thread Cert.Kernel6Ideal.nD Cert.Kernel6Ideal.τ).loc Cert.Kernel6Ideal.main_v11_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_v11_3) = v3 c
          ∧ r.2.mem ((c.tc : Thread Cert.Kernel6Ideal.nD Cert.Kernel6Ideal.τ).loc Cert.Kernel6Ideal.main_v11_4) = v4 c
          ∧ r.2.mem ((c.tc : Thread Cert.Kernel6Ideal.nD Cert.Kernel6Ideal.τ).loc Cert.Kernel6Ideal.main_v11_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_v24) = v3 c
          ∧ r.2.mem ((c.tc : Thread Cert.Reference6Ideal.nD Cert.Reference6Ideal.τ).loc Cert.Reference6Ideal.main_v17) = v4 c
          ∧ r.2.mem ((c.tc : Thread Cert.Reference6Ideal.nD Cert.Reference6Ideal.τ).loc Cert.Reference6Ideal.main_v19) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S65536x1024 : Shape := ⟨2, ![65536, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S65536x256 : Shape := ⟨2, ![65536, 256]⟩
abbrev S1024x1024 : Shape := ⟨2, ![1024, 1024]⟩
abbrev S256x1024 : Shape := ⟨2, ![256, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S65536x1024 .f32) (main_arg1 : FVec F S1024 .f32) (main_arg2 : FVec F S1024x8 .f32) (main_arg3 : FVec F S8x1024x3584 .f32) (main_arg4 : FVec F S8x1024x3584 .f32) (main_arg5 : FVec F S8x3584x1024 .f32) (main_arg6 : FVec F S65536x256 .f32) (main_arg7 : FVec F S1024x1024 .f32) (main_arg8 : FVec F S256x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  main_v13
-- ==== Kernel2.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S65536x256 : Shape := ⟨2, ![65536, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x256 : Shape := ⟨2, ![512, 256]⟩
abbrev S512 : Shape := ⟨1, ![512]⟩
abbrev S512x1 : Shape := ⟨2, ![512, 1]⟩
abbrev S512x1408 : Shape := ⟨2, ![512, 1408]⟩

abbrev nBuf : Space → Nat
  | .hbm => 15
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x256, .f32⟩
  | .hbm, ⟨6, _⟩ => ⟨S1024x1024, .f32⟩
  | .hbm, ⟨7, _⟩ => ⟨S256x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1024x1024, .bf16⟩
  | .hbm, ⟨13, _⟩ => ⟨S256x1024, .bf16⟩
  | .hbm, ⟨14, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x256, .f32⟩
  | .local _ .vmem, ⟨10, _⟩ => ⟨S512x256, .f32⟩
  | .local _ .vmem, ⟨11, _⟩ => ⟨S1024x1024, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![128, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S65536x256 : Shape := ⟨2, ![65536, 256]⟩
abbrev S1024x1024 : Shape := ⟨2, ![1024, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 50
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x256, .f32⟩
  | .hbm, ⟨6, _⟩ => ⟨S1024x1024, .f32⟩
  | .hbm, ⟨7, _⟩ => ⟨S256x1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x2816, .f32⟩
  | .hbm, ⟨25, _⟩ => ⟨S65536x2816, .f32⟩
  | .hbm, ⟨26, _⟩ => ⟨S65536x2816, .f32⟩
  | .hbm, ⟨27, _⟩ => ⟨S_, .f32⟩
  | .hbm, ⟨28, _⟩ => ⟨S65536x2816, .f32⟩
  | .hbm, ⟨29, _⟩ => ⟨S65536x2816, .f32⟩
  | .hbm, ⟨30, _⟩ => ⟨S_, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S65536x256 : Shape := ⟨2, ![65536, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S1x1024x896 : Shape := ⟨3, ![1, 1024, 896]⟩
abbrev S1x896x1024 : Shape := ⟨3, ![1, 896, 1024]⟩
abbrev S512x256 : Shape := ⟨2, ![512, 256]⟩
abbrev S512x8 : Shape := ⟨2, ![512, 8]⟩
abbrev S512 : Shape := ⟨1, ![512]⟩
abbrev S512x1 : Shape := ⟨2, ![512, 1]⟩
abbrev S1024x896 : Shape := ⟨2, ![1024, 896]⟩
abbrev S896x1024 : Shape := ⟨2, ![896, 1024]⟩
abbrev S512x896 : Shape := ⟨2, ![512, 896]⟩

abbrev nBuf : Space → Nat
  | .hbm => 16
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S65536x256, .f32⟩
  | .hbm, ⟨7, _⟩ => ⟨S1024x1024, .f32⟩
  | .hbm, ⟨8, _⟩ => ⟨S256x1024, .f32⟩
  | .hbm, ⟨9, _⟩ => ⟨S1x1024, .f32⟩
  | .hbm, ⟨10, _⟩ => ⟨S8x1024x3584, .bf16⟩
  | .hbm, ⟨11, _⟩ => ⟨S8x1024x3584, .bf16⟩
  | .hbm, ⟨12, _⟩ => ⟨S8x3584x1024, .bf16⟩
  | .hbm, ⟨13, _⟩ => ⟨S1024x1024, .bf16⟩
  | .hbm, ⟨14, _⟩ => ⟨S256x1024, .bf16⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8, .f32⟩
  | .local _ .vmem, ⟨4, _⟩ => ⟨S1x1024x896, .bf16⟩
  | .local _ .vmem, ⟨5, _⟩ => ⟨S1x1024x896, .bf16⟩
  | .local _ .vmem, ⟨6, _⟩ => ⟨S1x1024x896, .bf16⟩
  | .local _ .vmem, ⟨7, _⟩ => ⟨S1x1024x896, .bf16⟩
  | .local _ .vmem, ⟨8, _⟩ => ⟨S1x896x1024, .bf16⟩
  | .local _ .vmem, ⟨9, _⟩ => ⟨S1x896x1024, .bf16⟩
  | .local _ .vmem, ⟨10, _⟩ => ⟨S512x256, .f32⟩
  | .local _ .vmem, ⟨11, _⟩ => ⟨S512x256, .f32⟩
  | .local _ .vmem, ⟨12, _⟩ => ⟨S1024x1024, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x8, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![128, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x896x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== Reference3Ideal.lean ====
abbrev S65536x1024 : Shape := ⟨2, ![65536, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S65536x256 : Shape := ⟨2, ![65536, 256]⟩
abbrev S1024x1024 : Shape := ⟨2, ![1024, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8 : Shape := ⟨2, ![65536, 8]⟩
abbrev S65536x2 : Shape := ⟨2, ![65536, 2]⟩
abbrev S65536x2x1 : Shape := ⟨3, ![65536, 2, 1]⟩
abbrev S1x1x8 : Shape := ⟨3, ![1, 1, 8]⟩
abbrev S65536x2x8 : Shape := ⟨3, ![65536, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S65536x3584 : Shape := ⟨2, ![65536, 3584]⟩

abbrev nBuf : Space → Nat
  | .hbm => 248
  | .vmem => 0
  | .smem => 0
  | _ => 0

abbrev hbmTy0_0 (i : Nat) : BufTy := match i % 128 with
  | 0 => ⟨S65536x1024, .f32⟩
  | 1 => ⟨S1024, .f32⟩
  | 2 => ⟨S1024x8, .f32⟩
  | 3 => ⟨S8x1024x3584, .f32⟩
  | 4 => ⟨S8x1024x3584, .f32⟩
  | 5 => ⟨S8x3584x1024, .f32⟩
  | 6 => ⟨S65536x256, .f32⟩
  | 7 => ⟨S1024x1024, .f32⟩
  | 8 => ⟨S256x1024, .f32⟩
  | 9 => ⟨S65536x1024, .f32⟩
  | 10 => ⟨S_, .f32⟩
  | 11 => ⟨S65536, .f32⟩
  | 12 => ⟨S65536x1, .f32⟩
  | 13 => ⟨S_, .f32⟩
  | 14 => ⟨S65536x1, .f32⟩
  | 15 => ⟨S65536x1, .f32⟩
  | 16 => ⟨S_, .f32⟩
  | 17 => ⟨S65536x1, .f32⟩
  | 18 => ⟨S65536x1, .f32⟩
  | 19 => ⟨S65536x1, .f32⟩
  | 20 => ⟨S65536x1024, .f32⟩
  | 21 => ⟨S65536x1024, .f32⟩
  | 22 => ⟨S1x1024, .f32⟩
  | 23 => ⟨S65536x1024, .f32⟩
  | 24 => ⟨S65536x1024, .f32⟩
  | 25 => ⟨S65536x8, .f32⟩
  | 26 => ⟨S65536x2, .f32⟩
  | 27 => ⟨S65536x2, .i32⟩
  | 28 => ⟨S_, .f32⟩
  | 29 => ⟨S65536, .f32⟩
  | 30 => ⟨S_, .f32⟩
  | 31 => ⟨S65536, .f32⟩
  | 32 => ⟨S65536, .f32⟩
  | 33 => ⟨S65536x1, .f32⟩
  | 34 => ⟨S65536x2, .f32⟩
  | 35 => ⟨S65536x2, .f32⟩
  | 36 => ⟨S65536x2, .f32⟩
  | 37 => ⟨S_, .f32⟩
  | 38 => ⟨S65536, .f32⟩
  | 39 => ⟨S65536x1, .f32⟩
  | 40 => ⟨S65536x2, .f32⟩
  | 41 => ⟨S65536x2, .f32⟩
  | 42 => ⟨S65536x2x1, .i32⟩
  | 43 => ⟨S1x1x8, .i32⟩
  | 44 => ⟨S65536x2x8, .i32⟩
  | 45 => ⟨S65536x2x8, .i32⟩
  | 46 => ⟨S65536x2x8, .i1⟩
  | 47 => ⟨S65536x2x8, .f32⟩
  | 48 => ⟨S65536x8, .f32⟩
  | 49 => ⟨S_, .f32⟩
  | 50 => ⟨S65536x1024, .f32⟩
  | 51 => ⟨S65536x1, .f32⟩
  | 52 => ⟨S1x1024x3584, .f32⟩
  | 53 => ⟨S1024x3584, .f32⟩
  | 54 => ⟨S1x1024x3584, .f32⟩
  | 55 => ⟨S1024x3584, .f32⟩
  | 56 => ⟨S1x3584x1024, .f32⟩
  | 57 => ⟨S3584x1024, .f32⟩
  | 58 => ⟨S65536x3584, .f32⟩
  | 59 => ⟨S65536x3584, .f32⟩
  | 60 => ⟨S65536x3584, .f32⟩
  | 61 => ⟨S_, .f32⟩
  | 62 => ⟨S65536x3584, .f32⟩
  | 63 => ⟨S65536x3584, .f32⟩
  | 64 => ⟨S_, .f32⟩
  | 65 => ⟨S65536x3584, .f32⟩
  | 66 => ⟨S65536x3584, .f32⟩
  | 67 => ⟨S65536x3584, .f32⟩
  | 68 => ⟨S65536x3584, .f32⟩
  | 69 => ⟨S65536x3584, .f32⟩
  | 70 => ⟨S65536x1024, .f32⟩
  | 71 => ⟨S65536x1024, .f32⟩
  | 72 => ⟨S65536x1024, .f32⟩
  | 73 => ⟨S65536x1024, .f32⟩
  | 74 => ⟨S65536x1, .f32⟩
  | 75 => ⟨S1x1024x3584, .f32⟩
  | 76 => ⟨S1024x3584, .f32⟩
  | 77 => ⟨S1x1024x3584, .f32⟩
  | 78 => ⟨S1024x3584, .f32⟩
  | 79 => ⟨S1x3584x1024, .f32⟩
  | 80 => ⟨S3584x1024, .f32⟩
  | 81 => ⟨S65536x3584, .f32⟩
  | 82 => ⟨S65536x3584, .f32⟩
  | 83 => ⟨S65536x3584, .f32⟩
  | 84 => ⟨S_, .f32⟩
  | 85 => ⟨S65536x3584, .f32⟩
  | 86 => ⟨S65536x3584, .f32⟩
  | 87 => ⟨S_, .f32⟩
  | 88 => ⟨S65536x3584, .f32⟩
  | 89 => ⟨S65536x3584, .f32⟩
  | 90 => ⟨S65536x3584, .f32⟩
  | 91 => ⟨S65536x3584, .f32⟩
  | 92 => ⟨S65536x3584, .f32⟩
  | 93 => ⟨S65536x1024, .f32⟩
  | 94 => ⟨S65536x1024, .f32⟩
  | 95 => ⟨S65536x1024, .f32⟩
  | 96 => ⟨S65536x1024, .f32⟩
  | 97 => ⟨S65536x1, .f32⟩
  | 98 => ⟨S1x1024x3584, .f32⟩
  | 99 => ⟨S1024x3584, .f32⟩
  | 100 => ⟨S1x1024x3584, .f32⟩
  | 101 => ⟨S1024x3584, .f32⟩
  | 102 => ⟨S1x3584x1024, .f32⟩
  | 103 => ⟨S3584x1024, .f32⟩
  | 104 => ⟨S65536x3584, .f32⟩
  | 105 => ⟨S65536x3584, .f32⟩
  | 106 => ⟨S65536x3584, .f32⟩
  | 107 => ⟨S_, .f32⟩
  | 108 => ⟨S65536x3584, .f32⟩
  | 109 => ⟨S65536x3584, .f32⟩
  | 110 => ⟨S_, .f32⟩
  | 111 => ⟨S65536x3584, .f32⟩
  | 112 => ⟨S65536x3584, .f32⟩
  | 113 => ⟨S65536x3584, .f32⟩
  | 114 => ⟨S65536x3584, .f32⟩
  | 115 => ⟨S65536x3584, .f32⟩
  | 116 => ⟨S65536x1024, .f32⟩
  | 117 => ⟨S65536x1024, .f32⟩
  | 118 => ⟨S65536x1024, .f32⟩
  | 119 => ⟨S65536x1024, .f32⟩
  | 120 => ⟨S65536x1, .f32⟩
  | 121 => ⟨S1x1024x3584, .f32⟩
  | 122 => ⟨S1024x3584, .f32⟩
  | 123 => ⟨S1x1024x3584, .f32⟩
  | 124 => ⟨S1024x3584, .f32⟩
  | 125 => ⟨S1x3584x1024, .f32⟩
  | 126 => ⟨S3584x1024, .f32⟩
  | 127 => ⟨S65536x3584, .f32⟩
  | _ => ⟨S65536x1024, .f32⟩

abbrev hbmTy0_1 (i : Nat) : BufTy := match i % 128 with
  | 0 => ⟨S65536x3584, .f32⟩
  | 1 => ⟨S65536x3584, .f32⟩
  | 2 => ⟨S_, .f32⟩
  | 3 => ⟨S65536x3584, .f32⟩
  | 4 => ⟨S65536x3584, .f32⟩
  | 5 => ⟨S_, .f32⟩
  | 6 => ⟨S65536x3584, .f32⟩
  | 7 => ⟨S65536x3584, .f32⟩
  | 8 => ⟨S65536x3584, .f32⟩
  | 9 => ⟨S65536x3584, .f32⟩
  | 10 => ⟨S65536x3584, .f32⟩
  | 11 => ⟨S65536x1024, .f32⟩
  | 12 => ⟨S65536x1024, .f32⟩
  | 13 => ⟨S65536x1024, .f32⟩
  | 14 => ⟨S65536x1024, .f32⟩
  | 15 => ⟨S65536x1, .f32⟩
  | 16 => ⟨S1x1024x3584, .f32⟩
  | 17 => ⟨S1024x3584, .f32⟩
  | 18 => ⟨S1x1024x3584, .f32⟩
  | 19 => ⟨S1024x3584, .f32⟩
  | 20 => ⟨S1x3584x1024, .f32⟩
  | 21 => ⟨S3584x1024, .f32⟩
  | 22 => ⟨S65536x3584, .f32⟩
  | 23 => ⟨S65536x3584, .f32⟩
  | 24 => ⟨S65536x3584, .f32⟩
  | 25 => ⟨S_, .f32⟩
  | 26 => ⟨S65536x3584, .f32⟩
  | 27 => ⟨S65536x3584, .f32⟩
  | 28 => ⟨S_, .f32⟩
  | 29 => ⟨S65536x3584, .f32⟩
  | 30 => ⟨S65536x3584, .f32⟩
  | 31 => ⟨S65536x3584, .f32⟩
  | 32 => ⟨S65536x3584, .f32⟩
  | 33 => ⟨S65536x3584, .f32⟩
  | 34 => ⟨S65536x1024, .f32⟩
  | 35 => ⟨S65536x1024, .f32⟩
  | 36 => ⟨S65536x1024, .f32⟩
  | 37 => ⟨S65536x1024, .f32⟩
  | 38 => ⟨S65536x1, .f32⟩
  | 39 => ⟨S1x1024x3584, .f32⟩
  | 40 => ⟨S1024x3584, .f32⟩
  | 41 => ⟨S1x1024x3584, .f32⟩
  | 42 => ⟨S1024x3584, .f32⟩
  | 43 => ⟨S1x3584x1024, .f32⟩
  | 44 => ⟨S3584x1024, .f32⟩
  | 45 => ⟨S65536x3584, .f32⟩
  | 46 => ⟨S65536x3584, .f32⟩
  | 47 => ⟨S65536x3584, .f32⟩
  | 48 => ⟨S_, .f32⟩
  | 49 => ⟨S65536x3584, .f32⟩
  | 50 => ⟨S65536x3584, .f32⟩
  | 51 => ⟨S_, .f32⟩
  | 52 => ⟨S65536x3584, .f32⟩
  | 53 => ⟨S65536x3584, .f32⟩
  | 54 => ⟨S65536x3584, .f32⟩
  | 55 => ⟨S65536x3584, .f32⟩
  | 56 => ⟨S65536x3584, .f32⟩
  | 57 => ⟨S65536x1024, .f32⟩
  | 58 => ⟨S65536x1024, .f32⟩
  | 59 => ⟨S65536x1024, .f32⟩
  | 60 => ⟨S65536x1024, .f32⟩
  | 61 => ⟨S65536x1, .f32⟩
  | 62 => ⟨S1x1024x3584, .f32⟩
  | 63 => ⟨S1024x3584, .f32⟩
  | 64 => ⟨S1x1024x3584, .f32⟩
  | 65 => ⟨S1024x3584, .f32⟩
  | 66 => ⟨S1x3584x1024, .f32⟩
  | 67 => ⟨S3584x1024, .f32⟩
  | 68 => ⟨S65536x3584, .f32⟩
  | 69 => ⟨S65536x3584, .f32⟩
  | 70 => ⟨S65536x3584, .f32⟩
  | 71 => ⟨S_, .f32⟩
  | 72 => ⟨S65536x3584, .f32⟩
  | 73 => ⟨S65536x3584, .f32⟩
  | 74 => ⟨S_, .f32⟩
  | 75 => ⟨S65536x3584, .f32⟩
  | 76 => ⟨S65536x3584, .f32⟩
  | 77 => ⟨S65536x3584, .f32⟩
  | 78 => ⟨S65536x3584, .f32⟩
  | 79 => ⟨S65536x3584, .f32⟩
  | 80 => ⟨S65536x1024, .f32⟩
  | 81 => ⟨S65536x1024, .f32⟩
  | 82 => ⟨S65536x1024, .f32⟩
  | 83 => ⟨S65536x1024, .f32⟩
  | 84 => ⟨S65536x1, .f32⟩
  | 85 => ⟨S1x1024x3584, .f32⟩
  | 86 => ⟨S1024x3584, .f32⟩
  | 87 => ⟨S1x1024x3584, .f32⟩
  | 88 => ⟨S1024x3584, .f32⟩
  | 89 => ⟨S1x3584x1024, .f32⟩
  | 90 => ⟨S3584x1024, .f32⟩
  | 91 => ⟨S65536x3584, .f32⟩
  | 92 => ⟨S65536x3584, .f32⟩
  | 93 => ⟨S65536x3584, .f32⟩
  | 94 => ⟨S_, .f32⟩
  | 95 => ⟨S65536x3584, .f32⟩
  | 96 => ⟨S65536x3584, .f32⟩
  | 97 => ⟨S_, .f32⟩
  | 98 => ⟨S65536x3584, .f32⟩
  | 99 => ⟨S65536x3584, .f32⟩
  | 100 => ⟨S65536x3584, .f32⟩
  | 101 => ⟨S65536x3584, .f32⟩
  | 102 => ⟨S65536x3584, .f32⟩
  | 103 => ⟨S65536x1024, .f32⟩
  | 104 => ⟨S65536x1024, .f32⟩
  | 105 => ⟨S65536x1024, .f32⟩
  | 106 => ⟨S65536x1024, .f32⟩
  | 107 => ⟨S65536x1024, .f32⟩
  | 108 => ⟨S65536x1024, .f32⟩
  | 109 => ⟨S65536x1024, .f32⟩
  | 110 => ⟨S65536x1024, .f32⟩
  | 111 => ⟨S_, .f32⟩
  | 112 => ⟨S65536x1024, .f32⟩
  | 113 => ⟨S65536x1024, .f32⟩
  | 114 => ⟨S_, .f32⟩
  | 115 => ⟨S65536x1024, .f32⟩
  | 116 => ⟨S65536x1024, .f32⟩
  | 117 => ⟨S65536x1024, .f32⟩
  | 118 => ⟨S65536x1024, .f32⟩
  | 119 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_values : Ref sig .tc := ⟨.hbm, 26, rfl⟩
abbrev main_indices : Ref sig .tc := ⟨.hbm, 27, rfl⟩
abbrev main_cst_2 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_call3_v0 : Ref sig .tc := ⟨.hbm, 105, rfl⟩
abbrev main_call3_v1 : Ref sig .tc := ⟨.hbm, 106, rfl⟩
abbrev main_call3_cst : Ref sig .tc := ⟨.hbm, 107, rfl⟩
abbrev main_call3_v2 : Ref sig .tc := ⟨.hbm, 108, rfl⟩
abbrev main_call3_v3 : Ref sig .tc := ⟨.hbm, 109, rfl⟩
abbrev main_call3_cst_0 : Ref sig .tc := ⟨.hbm, 110, rfl⟩
abbrev main_call3_v4 : Ref sig .tc := ⟨.hbm, 111, rfl⟩
abbrev main_call3_v5 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_call4_v5 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_call5_v0 : Ref sig .tc := ⟨.hbm, 151, rfl⟩
abbrev main_call5_v1 : Ref sig .tc := ⟨.hbm, 152, rfl⟩
abbrev main_call5_cst : Ref sig .tc := ⟨.hbm, 153, rfl⟩
abbrev main_call5_v2 : Ref sig .tc := ⟨.hbm, 154, rfl⟩
abbrev main_call5_v3 : Ref sig .tc := ⟨.hbm, 155, rfl⟩
abbrev main_call5_cst_0 : Ref sig .tc := ⟨.hbm, 156, rfl⟩
abbrev main_call5_v4 : Ref sig .tc := ⟨.hbm, 157, rfl⟩
abbrev main_call5_v5 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_call6_v0 : Ref sig .tc := ⟨.hbm, 174, rfl⟩
abbrev main_call6_v1 : Ref sig .tc := ⟨.hbm, 175, rfl⟩
abbrev main_call6_cst : Ref sig .tc := ⟨.hbm, 176, rfl⟩
abbrev main_call6_v2 : Ref sig .tc := ⟨.hbm, 177, rfl⟩
abbrev main_call6_v3 : Ref sig .tc := ⟨.hbm, 178, rfl⟩
abbrev main_call6_cst_0 : Ref sig .tc := ⟨.hbm, 179, rfl⟩
abbrev main_call6_v4 : Ref sig .tc := ⟨.hbm, 180, rfl⟩
abbrev main_call6_v5 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_call7_v0 : Ref sig .tc := ⟨.hbm, 197, rfl⟩
abbrev main_call7_v1 : Ref sig .tc := ⟨.hbm, 198, rfl⟩
abbrev main_call7_cst : Ref sig .tc := ⟨.hbm, 199, rfl⟩
abbrev main_call7_v2 : Ref sig .tc := ⟨.hbm, 200, rfl⟩
abbrev main_call7_v3 : Ref sig .tc := ⟨.hbm, 201, rfl⟩
abbrev main_call7_cst_0 : Ref sig .tc := ⟨.hbm, 202, rfl⟩
abbrev main_call7_v4 : Ref sig .tc := ⟨.hbm, 203, rfl⟩
abbrev main_call7_v5 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_call8_v0 : Ref sig .tc := ⟨.hbm, 220, rfl⟩
abbrev main_call8_v1 : Ref sig .tc := ⟨.hbm, 221, rfl⟩
abbrev main_call8_cst : Ref sig .tc := ⟨.hbm, 222, rfl⟩
abbrev main_call8_v2 : Ref sig .tc := ⟨.hbm, 223, rfl⟩
abbrev main_call8_v3 : Ref sig .tc := ⟨.hbm, 224, rfl⟩
abbrev main_call8_cst_0 : Ref sig .tc := ⟨.hbm, 225, rfl⟩
abbrev main_call8_v4 : Ref sig .tc := ⟨.hbm, 226, rfl⟩
abbrev main_call8_v5 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_cst_6 : Ref sig .tc := ⟨.hbm, 239, rfl⟩
abbrev main_v152 : Ref sig .tc := ⟨.hbm, 240, rfl⟩
abbrev main_v153 : Ref sig .tc := ⟨.hbm, 241, rfl⟩
abbrev main_cst_7 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S65536x512 : Shape := ⟨2, ![65536, 512]⟩
abbrev S512x1024 : Shape := ⟨2, ![512, 1024]⟩
abbrev S4x1024x1024 : Shape := ⟨3, ![4, 1024, 1024]⟩
abbrev S4x1024 : Shape := ⟨2, ![4, 1024]⟩
abbrev S1024x1024 : Shape := ⟨2, ![1024, 1024]⟩
abbrev S1x512x1024 : Shape := ⟨3, ![1, 512, 1024]⟩
abbrev S4x512x1024 : Shape := ⟨3, ![4, 512, 1024]⟩
abbrev S1x1024 : Shape := ⟨2, ![1, 1024]⟩
abbrev S4x1x1024 : Shape := ⟨3, ![4, 1, 1024]⟩
abbrev S512x512 : Shape := ⟨2, ![512, 512]⟩
abbrev S512 : Shape := ⟨1, ![512]⟩
abbrev S512x1 : Shape := ⟨2, ![512, 1]⟩
abbrev S1x1024x1024 : Shape := ⟨3, ![1, 1024, 1024]⟩
abbrev S1x1x1024 : Shape := ⟨3, ![1, 1, 1024]⟩

abbrev nBuf : Space → Nat
  | .hbm => 28
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x512, .f32⟩
  | .hbm, ⟨3, _⟩ => ⟨S65536x512, .f32⟩
  | .hbm, ⟨4, _⟩ => ⟨S65536x512, .f32⟩
  | .hbm, ⟨5, _⟩ => ⟨S65536x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S4x1024x1024, .f32⟩
  | .hbm, ⟨11, _⟩ => ⟨S4x1024, .f32⟩
  | .hbm, ⟨12, _⟩ => ⟨S1024x1024, .f32⟩
  | .hbm, ⟨13, _⟩ => ⟨S65536x512, .bf16⟩
  | .hbm, ⟨14, _⟩ => ⟨S65536x512, .bf16⟩
  | .hbm, ⟨15, _⟩ => ⟨S65536x512, .bf16⟩
  | .hbm, ⟨16, _⟩ => ⟨S65536x512, .bf16⟩
  | .hbm, ⟨17, _⟩ => ⟨S1x512x1024, .f32⟩
  | .hbm, ⟨18, _⟩ => ⟨S1x512x1024, .f32⟩
  | .hbm, ⟨19, _⟩ => ⟨S1x512x1024, .f32⟩
  | .hbm, ⟨20, _⟩ => ⟨S1x512x1024, .f32⟩
  | .hbm, ⟨21, _⟩ => ⟨S4x512x1024, .f32⟩
  | .hbm, ⟨22, _⟩ => ⟨S4x512x1024, .bf16⟩
  | .hbm, ⟨23, _⟩ => ⟨S1x1024, .f32⟩
  | .hbm, ⟨24, _⟩ => ⟨S4x1024x1024, .bf16⟩
  | .hbm, ⟨25, _⟩ => ⟨S4x1x1024, .f32⟩
  | .hbm, ⟨26, _⟩ => ⟨S1024x1024, .bf16⟩
  | .hbm, ⟨27, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S4x512x1024, .bf16⟩
  | .local _ .vmem, ⟨12, _⟩ => ⟨S4x1024x1024, .bf16⟩
  | .local _ .vmem, ⟨13, _⟩ => ⟨S4x1x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S65536x1024 : Shape := ⟨2, ![65536, 1024]⟩
abbrev S1024 : Shape := ⟨1, ![1024]⟩
abbrev S65536x512 : Shape := ⟨2, ![65536, 512]⟩
abbrev S512x1024 : Shape := ⟨2, ![512, 1024]⟩
abbrev S4x1024x1024 : Shape := ⟨3, ![4, 1024, 1024]⟩
abbrev S4x1024 : Shape := ⟨2, ![4, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1x1024x1024 : Shape := ⟨3, ![1, 1024, 1024]⟩

abbrev nBuf : Space → Nat
  | .hbm => 109
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x512, .f32⟩
  | .hbm, ⟨3, _⟩ => ⟨S65536x512, .f32⟩
  | .hbm, ⟨4, _⟩ => ⟨S65536x512, .f32⟩
  | .hbm, ⟨5, _⟩ => ⟨S65536x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S4x1024x1024, .f32⟩
  | .hbm, ⟨11, _⟩ => ⟨S4x1024, .f32⟩
  | .hbm, ⟨12, _⟩ => ⟨S1024x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536x1024, .f32⟩
  | .hbm, ⟨35, _⟩ => ⟨S1x1024x1024, .f32⟩
  | .hbm, ⟨36, _⟩ => ⟨S1024x1024, .f32⟩
  | .hbm, ⟨37, _⟩ => ⟨S65536x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S1x1024x1024, .f32⟩
  | .hbm, ⟨54, _⟩ => ⟨S1024x1024, .f32⟩
  | .hbm, ⟨55, _⟩ => ⟨S65536x1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S65536x1024, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S_, .f32⟩
  | .hbm, ⟨64, _⟩ => ⟨S65536x1024, .f32⟩
  | .hbm, ⟨65, _⟩ => ⟨S65536x1024, .f32⟩
  | .hbm, ⟨66, _⟩ => ⟨S_, .f32⟩
  | .hbm, ⟨67, _⟩ => ⟨S65536x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S1x1024x1024, .f32⟩
  | .hbm, ⟨72, _⟩ => ⟨S1024x1024, .f32⟩
  | .hbm, ⟨73, _⟩ => ⟨S65536x1024, .f32⟩
  | .hbm, ⟨74, _⟩ => ⟨S1x1024, .f32⟩
  | .hbm, ⟨75, _⟩ => ⟨S1024, .f32⟩
  | .hbm, ⟨76, _⟩ => ⟨S1x1024, .f32⟩
  | .hbm, ⟨77, _⟩ => ⟨S65536x1024, .f32⟩
  | .hbm, ⟨78, _⟩ => ⟨S65536x1024, .f32⟩
  | .hbm, ⟨79, _⟩ => ⟨S65536x1024, .f32⟩
  | .hbm, ⟨80, _⟩ => ⟨S65536x1024, .f32⟩
  | .hbm, ⟨81, _⟩ => ⟨S_, .f32⟩
  | .hbm, ⟨82, _⟩ => ⟨S65536x1024, .f32⟩
  | .hbm, ⟨83, _⟩ => ⟨S65536x1024, .f32⟩
  | .hbm, ⟨84, _⟩ => ⟨S_, .f32⟩
  | .hbm, ⟨85, _⟩ => ⟨S65536x1024, .f32⟩
  | .hbm, ⟨86, _⟩ => ⟨S65536x1024, .f32⟩
  | .hbm, ⟨87, _⟩ => ⟨S65536x1024, .f32⟩
  | .hbm, ⟨88, _⟩ => ⟨S65536x1024, .f32⟩
  | .hbm, ⟨89, _⟩ => ⟨S1x1024x1024, .f32⟩
  | .hbm, ⟨90, _⟩ => ⟨S1024x1024, .f32⟩
  | .hbm, ⟨91, _⟩ => ⟨S65536x1024, .f32⟩
  | .hbm, ⟨92, _⟩ => ⟨S1x1024, .f32⟩
  | .hbm, ⟨93, _⟩ => ⟨S1024, .f32⟩
  | .hbm, ⟨94, _⟩ => ⟨S1x1024, .f32⟩
  | .hbm, ⟨95, _⟩ => ⟨S65536x1024, .f32⟩
  | .hbm, ⟨96, _⟩ => ⟨S65536x1024, .f32⟩
  | .hbm, ⟨97, _⟩ => ⟨S65536x1024, .f32⟩
  | .hbm, ⟨98, _⟩ => ⟨S65536x1024, .f32⟩
  | .hbm, ⟨99, _⟩ => ⟨S_, .f32⟩
  | .hbm, ⟨100, _⟩ => ⟨S65536x1024, .f32⟩
  | .hbm, ⟨101, _⟩ => ⟨S65536x1024, .f32⟩
  | .hbm, ⟨102, _⟩ => ⟨S_, .f32⟩
  | .hbm, ⟨103, _⟩ => ⟨S65536x1024, .f32⟩
  | .hbm, ⟨104, _⟩ => ⟨S65536x1024, .f32⟩
  | .hbm, ⟨105, _⟩ => ⟨S65536x1024, .f32⟩
  | .hbm, ⟨106, _⟩ => ⟨S65536x1024, .f32⟩
  | .hbm, ⟨107, _⟩ => ⟨S65536x1024, .f32⟩
  | .hbm, ⟨108, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_cst_8 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_9 : Ref sig .tc := ⟨.hbm, 99, rfl⟩
abbrev main_v76 : Ref sig .tc := ⟨.hbm, 100, rfl⟩
abbrev main_v77 : Ref sig .tc := ⟨.hbm, 101, rfl⟩
abbrev main_cst_10 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Kernel5.lean ====
abbrev S65536x1024 : Shape := ⟨2, ![65536, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1x1024, .f32⟩
  | .hbm, ⟨3, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x1, .f32⟩
  | .hbm, ⟨13, _⟩ => ⟨S65536x1024, .f32⟩
  | .hbm, ⟨14, _⟩ => ⟨S65536x1024, .f32⟩
  | .hbm, ⟨15, _⟩ => ⟨S1x1024, .f32⟩
  | .hbm, ⟨16, _⟩ => ⟨S65536x1024, .f32⟩
  | .hbm, ⟨17, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S65536x1024 : Shape := ⟨2, ![65536, 1024]⟩
abbrev S1024 : Shape := ⟨1, ![1024]⟩
abbrev S1024x7440 : Shape := ⟨2, ![1024, 7440]⟩
abbrev S1x1024 : Shape := ⟨2, ![1, 1024]⟩
abbrev S1024x1296 : Shape := ⟨2, ![1024, 1296]⟩
abbrev S1024x16 : Shape := ⟨2, ![1024, 16]⟩
abbrev S1024x4608 : Shape := ⟨2, ![1024, 4608]⟩
abbrev S1024x1024 : Shape := ⟨2, ![1024, 1024]⟩
abbrev S1024x512 : Shape := ⟨2, ![1024, 512]⟩
abbrev S1024x768 : Shape := ⟨2, ![1024, 768]⟩
abbrev S_ : Shape := ⟨0, ![]⟩
abbrev S1024x112 : Shape := ⟨2, ![1024, 112]⟩
abbrev S1024x7552 : Shape := ⟨2, ![1024, 7552]⟩
abbrev S65536x4608 : Shape := ⟨2, ![65536, 4608]⟩
abbrev S65536x512 : Shape := ⟨2, ![65536, 512]⟩
abbrev S65536x768 : Shape := ⟨2, ![65536, 768]⟩
abbrev S8x4x8192x128 : Shape := ⟨4, ![8, 4, 8192, 128]⟩
abbrev S65536x128 : Shape := ⟨2, ![65536, 128]⟩
abbrev S256x1024 : Shape := ⟨2, ![256, 1024]⟩
abbrev S256x4608 : Shape := ⟨2, ![256, 4608]⟩
abbrev S256x512 : Shape := ⟨2, ![256, 512]⟩
abbrev S256x768 : Shape := ⟨2, ![256, 768]⟩
abbrev S1x4x256x128 : Shape := ⟨4, ![1, 4, 256, 128]⟩
abbrev S256x128 : Shape := ⟨2, ![256, 128]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x1x256x128 : Shape := ⟨4, ![1, 1, 256, 128]⟩
abbrev S1024x128 : Shape := ⟨2, ![1024, 128]⟩

abbrev nBuf : Space → Nat
  | .hbm => 21
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x7440, .f32⟩
  | .hbm, ⟨3, _⟩ => ⟨S1x1024, .f32⟩
  | .hbm, ⟨4, _⟩ => ⟨S1024x1296, .f32⟩
  | .hbm, ⟨5, _⟩ => ⟨S1024x16, .f32⟩
  | .hbm, ⟨6, _⟩ => ⟨S1024x4608, .f32⟩
  | .hbm, ⟨7, _⟩ => ⟨S1024x1024, .f32⟩
  | .hbm, ⟨8, _⟩ => ⟨S1024x512, .f32⟩
  | .hbm, ⟨9, _⟩ => ⟨S1024x768, .f32⟩
  | .hbm, ⟨10, _⟩ => ⟨S1024x512, .f32⟩
  | .hbm, ⟨11, _⟩ => ⟨S_, .f32⟩
  | .hbm, ⟨12, _⟩ => ⟨S1024x112, .f32⟩
  | .hbm, ⟨13, _⟩ => ⟨S1024x7552, .f32⟩
  | .hbm, ⟨14, _⟩ => ⟨S1024x7552, .bf16⟩
  | .hbm, ⟨15, _⟩ => ⟨S65536x4608, .bf16⟩
  | .hbm, ⟨16, _⟩ => ⟨S65536x1024, .f32⟩
  | .hbm, ⟨17, _⟩ => ⟨S65536x512, .f32⟩
  | .hbm, ⟨18, _⟩ => ⟨S65536x768, .f32⟩
  | .hbm, ⟨19, _⟩ => ⟨S8x4x8192x128, .f32⟩
  | .hbm, ⟨20, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7552, .bf16⟩
  | .local _ .vmem, ⟨4, _⟩ => ⟨S256x4608, .bf16⟩
  | .local _ .vmem, ⟨5, _⟩ => ⟨S256x4608, .bf16⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S256x768, .f32⟩
  | .local _ .vmem, ⟨11, _⟩ => ⟨S256x768, .f32⟩
  | .local _ .vmem, ⟨12, _⟩ => ⟨S1x4x256x128, .f32⟩
  | .local _ .vmem, ⟨13, _⟩ => ⟨S1x4x256x128, .f32⟩
  | .local _ .vmem, ⟨14, _⟩ => ⟨S256x128, .f32⟩
  | .local _ .vmem, ⟨15, _⟩ => ⟨S256x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7552 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S65536x1024 : Shape := ⟨2, ![65536, 1024]⟩
abbrev S1024 : Shape := ⟨1, ![1024]⟩
abbrev S1024x7440 : Shape := ⟨2, ![1024, 7440]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x7440 : Shape := ⟨2, ![65536, 7440]⟩
abbrev S65536x1296 : Shape := ⟨2, ![65536, 1296]⟩
abbrev S65536x512 : Shape := ⟨2, ![65536, 512]⟩
abbrev S8x8192x4x128 : Shape := ⟨4, ![8, 8192, 4, 128]⟩
abbrev S8x4x8192x128 : Shape := ⟨4, ![8, 4, 8192, 128]⟩
abbrev S65536x16 : Shape := ⟨2, ![65536, 16]⟩
abbrev S65536x128 : Shape := ⟨2, ![65536, 128]⟩
abbrev S65536x4608 : Shape := ⟨2, ![65536, 4608]⟩
abbrev S65536x768 : Shape := ⟨2, ![65536, 768]⟩

abbrev nBuf : Space → Nat
  | .hbm => 33
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x7440, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x7440, .f32⟩
  | .hbm, ⟨20, _⟩ => ⟨S65536x1296, .f32⟩
  | .hbm, ⟨21, _⟩ => ⟨S65536x512, .f32⟩
  | .hbm, ⟨22, _⟩ => ⟨S8x8192x4x128, .f32⟩
  | .hbm, ⟨23, _⟩ => ⟨S8x4x8192x128, .f32⟩
  | .hbm, ⟨24, _⟩ => ⟨S65536x16, .f32⟩
  | .hbm, ⟨25, _⟩ => ⟨S_, .i32⟩
  | .hbm, ⟨26, _⟩ => ⟨S_, .f32⟩
  | .hbm, ⟨27, _⟩ => ⟨S65536x128, .f32⟩
  | .hbm, ⟨28, _⟩ => ⟨S65536x4608, .f32⟩
  | .hbm, ⟨29, _⟩ => ⟨S65536x4608, .bf16⟩
  | .hbm, ⟨30, _⟩ => ⟨S65536x1024, .f32⟩
  | .hbm, ⟨31, _⟩ => ⟨S65536x512, .f32⟩
  | .hbm, ⟨32, _⟩ => ⟨S65536x768, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Moe.Points.lean ====
/-
  What the expert kernel's body leaves behind at each grid point, as its own stored values: at the first point of a row
  block (`outs_A`) the normalised rows and the shares besides the first part of the output, at the others (`outs_B`,
  `outs_C`) one more part of the output, at the last one the gated addition.
-/
module
public import proofs.«01_k».proof.Proof.Gen.Kernel3Ideal.Value
public import Idealize.ShloMosaic.Lib.WholeRead
@[expose] public section
set_option maxRecDepth 16384
noncomputable section
open Idealize.ShloMosaic
namespace Cert.Kernel3Ideal.Body
open Cert.Kernel3Ideal Cert.Kernel3Ideal.Gen Idealize.ShloMosaic.TcCoe Idealize.SL.Sem

/-- A load of a whole buffer reads what the buffer holds. -/
theorem whole_ld {sig : RefSig} {κ : Kind} {sp : Space} {s : Shape} {e : EltTy} {Val : EltTy → Type} {M : Memref sig κ sp s e}
    (h : M.IsWhole) (X : s.Idx → Val e) {off : Fin s.rank → ℕ} (hz : off = fun _ => 0) (inb : ∀ a, off a + s.size a ≤ s.size a) :
    View.readAt Val M.view (Rect.unit off s.size inb).toLoadRect (h.unread X) = X := by
  funext x
  rw [h.readAt_unread]
  exact congrFun (View.ld_unit_zero hz inb X) x

/-- The whole block starts at the origin. -/
theorem zero2 : (![0, 0] : Fin 2 → ℕ) = fun _ => 0 := by funext a; fin_cases a <;> rfl
theorem zero3 : (![0, 0, 0] : Fin 3 → ℕ) = fun _ => 0 := by funext a; fin_cases a <;> rfl

variable {F : FTy → Type} [FloatOps F]
variable (m : (ℓ : Loc nD τ sig) → Buf (Elt F) ℓ)

/-- A point in the middle of a row block adds its expert part and keeps the scratch. -/
theorem outs_B (c : Dev nD) (t : Fin cfg0.N) (h0 : ¬t.val % 32 = 0) (h1 : ¬t.val % 32 = 31)
    (p) (hp : outsAt0 m c (t.val - 1) (Nat.lt_of_le_of_lt (Nat.sub_le _ _) t.isLt) = p) :
    outsAt0 m c t.val t.isLt
      = (k0_pay11 (grid0.coords t) p.2.2 p.1 p.2.1 (iblk m c 3 t) (iblk m c 4 t) (iblk m c 5 t), p.2.1, p.2.2) := by
  rw [outsAt0_B m c t h0 h1, hp]
  refine Prod.ext ?_ rfl
  dsimp only
  unfold out0_B_9
  dsimp only [kernelRun0_B, kernelRun0_B.sl.r]
  rw [View.read_writes_junk_eq_canon]
  refine (View.canon_unit_zero zero2 _ _).trans ?_
  have e5 := whole_ld (Val := Elt F) (Memref.isWhole_whole cc0_scratch1) p.2.2 zero2 inb_S512x8_S512x8_0_0
  have e1 := whole_ld (Val := Elt F) (hs0_9 t) p.1 zero2 inb_S512x1024_S512x1024_0_0
  have e2 := whole_ld (Val := Elt F) (Memref.isWhole_whole cc0_scratch0) p.2.1 zero2 inb_S512x1024_S512x1024_0_0
  have e3 := whole_ld (Val := Elt F) (hs0_3 t) (iblk m c 3 t) zero3 inb_S1x1024x896_S1x1024x896_0_0_0
  have e4 := whole_ld (Val := Elt F) (hs0_4 t) (iblk m c 4 t) zero3 inb_S1x1024x896_S1x1024x896_0_0_0
  have e6 := whole_ld (Val := Elt F) (hs0_5 t) (iblk m c 5 t) zero3 inb_S1x896x1024_S1x896x1024_0_0_0
  exact congr (congr (congr (congr (congr (congrArg _ e5) e1) e2) e3) e4) e6

/-- The last point of a row block adds its expert part and ends with the gated addition. -/
theorem outs_C (c : Dev nD) (t : Fin cfg0.N) (h0 : ¬t.val % 32 = 0) (h1 : t.val % 32 = 31)
    (p) (hp : outsAt0 m c (t.val - 1) (Nat.lt_of_le_of_lt (Nat.sub_le _ _) t.isLt) = p) :
    (outsAt0 m c t.val t.isLt).1
      = k0_pay1 (k0_pay11 (grid0.coords t) p.2.2 p.1 p.2.1 (iblk m c 3 t) (iblk m c 4 t) (iblk m c 5 t))
        (iblk m c 7 t) (iblk m c 6 t) (iblk m c 8 t) := by
  rw [outsAt0_C m c t h0 h1, hp]
  dsimp only
  unfold out0_C_9
  dsimp only [kernelRun0_C, kernelRun0_C.sl.v38, kernelRun0_C.sl.H9_1, kernelRun0_C.sl.r]
  rw [View.read_writes_junk_eq_canon]
  refine (View.canon_cons_unit_zero zero2 _ _ _).trans ?_
  have e5 := whole_ld (Val := Elt F) (Memref.isWhole_whole cc0_scratch1) p.2.2 zero2 inb_S512x8_S512x8_0_0
  have e1 := whole_ld (Val := Elt F) (hs0_9 t) p.1 zero2 inb_S512x1024_S512x1024_0_0
  have e2 := whole_ld (Val := Elt F) (Memref.isWhole_whole cc0_scratch0) p.2.1 zero2 inb_S512x1024_S512x1024_0_0
  have e3 := whole_ld (Val := Elt F) (hs0_3 t) (iblk m c 3 t) zero3 inb_S1x1024x896_S1x1024x896_0_0_0
  have e4 := whole_ld (Val := Elt F) (hs0_4 t) (iblk m c 4 t) zero3 inb_S1x1024x896_S1x1024x896_0_0_0
  have e6 := whole_ld (Val := Elt F) (hs0_5 t) (iblk m c 5 t) zero3 inb_S1x896x1024_S1x896x1024_0_0_0
  have e7 := whole_ld (Val := Elt F) (hs0_7 t) (iblk m c 7 t) zero2 inb_S1024x1024_S1024x1024_0_0
  have e8 := whole_ld (Val := Elt F) (hs0_6 t) (iblk m c 6 t) zero2 inb_S512x256_S512x256_0_0
  have e9 := whole_ld (Val := Elt F) (hs0_8 t) (iblk m c 8 t) zero2 inb_S256x1024_S256x1024_0_0
  refine congr (congr (congr (congrArg _ ?_) e7) e8) e9
  refine (View.readCov_cons_toLoadRect _ _ _ _).trans ?_
  exact congr (congr (congr (congr (congr (congrArg _ e5) e1) e2) e3) e4) e6

/-- The shares of one block of tokens, as the first point of a row block computes them. -/
def shares (h : Vec F S512x1024 .f32) (g : Vec F S1x1024 .f32) (r : Vec F S1024x8 .f32) : Vec F S512x8 .f32 :=
  k0_pay10 (iota .tc S512x8 32 [1] iota_S512x8_d1_w32) (k0_pay5 h g r) (k0_pay6 h g r) (k0_pay8 h g r) (k0_pay9 h g r)

/-- The first point of a row block normalises the rows, computes the shares and adds its expert part to the input rows. -/
theorem outs_A (c : Dev nD) (t : Fin cfg0.N) (h0 : t.val % 32 = 0) (h1 : ¬ t.val % 32 = 31) :
    outsAt0 m c t.val t.isLt
      = (k0_pay11 (grid0.coords t) (shares (iblk m c 0 t) (iblk m c 1 t) (iblk m c 2 t)) (iblk m c 0 t)
          (k0_pay3 (iblk m c 0 t) (iblk m c 1 t)) (iblk m c 3 t) (iblk m c 4 t) (iblk m c 5 t),
        k0_pay3 (iblk m c 0 t) (iblk m c 1 t), shares (iblk m c 0 t) (iblk m c 1 t) (iblk m c 2 t)) := by
  have e0 := whole_ld (Val := Elt F) (hs0_0 t) (iblk m c 0 t) zero2 inb_S512x1024_S512x1024_0_0
  have e1 := whole_ld (Val := Elt F) (hs0_1 t) (iblk m c 1 t) zero2 inb_S1x1024_S1x1024_0_0
  have e2 := whole_ld (Val := Elt F) (hs0_2 t) (iblk m c 2 t) zero2 inb_S1024x8_S1024x8_0_0
  have e3 := whole_ld (Val := Elt F) (hs0_3 t) (iblk m c 3 t) zero3 inb_S1x1024x896_S1x1024x896_0_0_0
  have e4 := whole_ld (Val := Elt F) (hs0_4 t) (iblk m c 4 t) zero3 inb_S1x1024x896_S1x1024x896_0_0_0
  have e6 := whole_ld (Val := Elt F) (hs0_5 t) (iblk m c 5 t) zero3 inb_S1x896x1024_S1x896x1024_0_0_0
  rw [outsAt0_A m c t h0 h1]
  refine Prod.ext ?_ (Prod.ext ?_ ?_)
  · dsimp only
    unfold out0_A_9
    dsimp only [kernelRun0_A, kernelRun0_A.sl.r_5]
    rw [View.read_writes_junk_eq_canon]
    refine (View.canon_cons_unit_zero zero2 _ _ _).trans ?_
    refine congr (congr (congr (congr (congr (congrArg _ ?_) ?_) ?_) e3) e4) e6
    · dsimp only [kernelRun0_A.sl.v5, kernelRun0_A.sl.HS1_1]
      refine (View.readCov_cons_toLoadRect _ _ _ _).trans ?_
      unfold shares
      simp only [kernelRun0_A.sl.r_1, kernelRun0_A.sl.r_2, kernelRun0_A.sl.r_3, kernelRun0_A.sl.r_4, kernelRun0_A.sl.r, kernelRun0_A.sl.v59]
      refine congr (congr (congr (congr (congrArg k0_pay10 rfl) ?_) ?_) ?_) ?_
      · exact congr (congr (congrArg k0_pay5 e0) e1) e2
      · exact congr (congr (congrArg k0_pay6 e0) e1) e2
      · exact congr (congr (congrArg k0_pay8 e0) e1) e2
      · exact congr (congr (congrArg k0_pay9 e0) e1) e2
    · dsimp only [kernelRun0_A.sl.v13, kernelRun0_A.sl.H9_1]
      refine (View.readCov_cons_toLoadRect _ _ _ _).trans ?_
      simp only [kernelRun0_A.sl.r]
      exact e0
    · dsimp only [kernelRun0_A.sl.v15, kernelRun0_A.sl.HS0_1]
      refine (View.readCov_cons_toLoadRect _ _ _ _).trans ?_
      exact congr (congrArg _ e0) e1
  · dsimp only
    unfold sout0_A_0
    dsimp only [kernelRun0_A, kernelRun0_A.sl.HS0_1]
    rw [View.read_writes_junk_eq_canon]
    refine (View.canon_unit_zero zero2 _ _).trans ?_
    exact congr (congrArg _ e0) e1
  · dsimp only
    unfold sout0_A_1
    dsimp only [kernelRun0_A, kernelRun0_A.sl.HS1_1]
    rw [View.read_writes_junk_eq_canon]
    refine (View.canon_unit_zero zero2 _ _).trans ?_
    unfold shares
    simp only [kernelRun0_A.sl.r_1, kernelRun0_A.sl.r_2, kernelRun0_A.sl.r_3, kernelRun0_A.sl.r_4, kernelRun0_A.sl.r, kernelRun0_A.sl.v59]
    refine congr (congr (congr (congr (congrArg k0_pay10 rfl) ?_) ?_) ?_) ?_
    · exact congr (congr (congrArg k0_pay5 e0) e1) e2
    · exact congr (congr (congrArg k0_pay6 e0) e1) e2
    · exact congr (congr (congrArg k0_pay8 e0) e1) e2
    · exact congr (congr (congrArg k0_pay9 e0) e1) e2

end Cert.Kernel3Ideal.Body

end
-- ==== Proof.Layer.Plain.lean ====
/-
  The mathematics of the two calls, over the extended reals and with no program in sight: one token row normalised
  (`Layer.unit`), a gated feed-forward layer (`Layer.hidden`, `Layer.mlp`), the gated addition that ends a block
  (`Layer.gated`), the choice of a token's two best experts (`Layer.Top2`, `Layer.best`) and their shares (`Layer.share`).
-/
module

public import Idealize.ShloMosaic.Lib.Pointwise
public import Idealize.ShloMosaic.Lib.MatmulPlain
public import Idealize.ShloMosaic.Lib.SortFacts

@[expose] public section

noncomputable section

open Idealize.ShloMosaic

namespace Layer

/-- One entry of the normalised row: the row's entry divided by the root of its mean square (plus the small constant),
    times the gain. -/
def unit (h g : Fin 1024 → EReal) (d : Fin 1024) : EReal :=
  h d * Ideal.rsqrt (Ideal.div (∑ k, h k * h k) (Ideal.ofBits .f32 0x44800000#32) + Ideal.ofBits .f32 0x358637BD#32) * g d

/-- One hidden unit of the gated layer: `silu (x·w1) * (x·w3)`. -/
def hidden {n : ℕ} (x : Fin 1024 → EReal) (w1 w3 : Fin 1024 → Fin n → EReal) (f : Fin n) : EReal :=
  (∑ k, x k * w1 k f) * Ideal.logistic (∑ k, x k * w1 k f) * ∑ k, x k * w3 k f

/-- One output of the gated layer over all its hidden units. -/
def mlp {n : ℕ} (x : Fin 1024 → EReal) (w1 w3 : Fin 1024 → Fin n → EReal) (w2 : Fin n → Fin 1024 → EReal) (c : Fin 1024) :
    EReal :=
  ∑ f, hidden x w1 w3 f * w2 f c

/-- The gated addition that ends the block: `a + sigmoid (a·wg) * (p·wp)`. -/
def gated (a : Fin 1024 → EReal) (wg : Fin 1024 → Fin 1024 → EReal) (p : Fin 256 → EReal) (wp : Fin 256 → Fin 1024 → EReal)
    (c : Fin 1024) : EReal :=
  a c + Ideal.logistic (∑ k, a k * wg k c) * ∑ k, p k * wp k c

/-- The whole feed-forward block of one token row. -/
def row (h g : Fin 1024 → EReal) (w1 w3 : Fin 1024 → Fin 2816 → EReal) (w2 : Fin 2816 → Fin 1024 → EReal) (p : Fin 256 → EReal)
    (wg : Fin 1024 → Fin 1024 → EReal) (wp : Fin 256 → Fin 1024 → EReal) (c : Fin 1024) : EReal :=
  gated (fun d => h d + mlp (unit h g) w1 w3 w2 d) wg p wp c

/-! ## The two best of eight -/

/-- Expert `x` stands before expert `y`: its logit is greater, or they are equal and its number is lower. -/
def ahead (L : Fin 8 → EReal) (x y : Fin 8) : Prop := L y < L x ∨ (L x = L y ∧ x < y)

/-- `i` and `j` are the best and the second best of the eight. -/
structure Top2 (L : Fin 8 → EReal) (i j : Fin 8) : Prop where
  ne : j ≠ i
  first : ∀ x, x ≠ i → ahead L i x
  second : ∀ x, x ≠ i → x ≠ j → ahead L j x

theorem Top2.le {L : Fin 8 → EReal} {i j : Fin 8} (t : Top2 L i j) (x : Fin 8) : L x ≤ L i := by
  by_cases h : x = i
  · rw [h]
  · rcases t.first x h with h | ⟨h, -⟩
    · exact h.le
    · exact h.ge

theorem Top2.le' {L : Fin 8 → EReal} {i j : Fin 8} (t : Top2 L i j) {x : Fin 8} (hx : x ≠ i) : L x ≤ L j := by
  by_cases h : x = j
  · rw [h]
  · rcases t.second x hx h with h | ⟨h, -⟩
    · exact h.le
    · exact h.ge

/-- No lower-numbered expert ties with the best. -/
theorem Top2.not_below {L : Fin 8 → EReal} {i j : Fin 8} (t : Top2 L i j) {x : Fin 8} (hx : x < i) : ¬L x = L i := fun e => by
  rcases t.first x hx.ne with h | ⟨-, h⟩
  · exact h.ne e
  · exact absurd h (not_lt.2 hx.le)

/-- No other lower-numbered expert ties with the second best. -/
theorem Top2.not_below' {L : Fin 8 → EReal} {i j : Fin 8} (t : Top2 L i j) {x : Fin 8} (hi : x ≠ i) (hx : x < j) : ¬L x = L j := fun e => by
  rcases t.second x hi hx.ne with h | ⟨-, h⟩
  · exact h.ne e
  · exact absurd h (not_lt.2 hx.le)

/-- Strictly greater, as the comparison of a sort. -/
def before (L : Fin 8 → EReal) (x y : Fin 8) : Bool := decide (L y < L x)

/-- The expert that a stable sort by decreasing logit puts at place `k`. -/
def best (L : Fin 8 → EReal) (k : Fin 8) : Fin 8 := sortedFrom (before L) k

theorem insert_ahead (L : Fin 8 → EReal) (a : Fin 8) : ∀ l : List (Fin 8), l.Pairwise (ahead L) → (∀ x ∈ l, a < x) →
    (insertBefore (before L) a l).Pairwise (ahead L) ∧ ∀ x, x ∈ insertBefore (before L) a l ↔ x = a ∨ x ∈ l
  | [], _, _ => by simp [insertBefore]
  | b :: l, hp, ha => by
    obtain ⟨hb, hl⟩ := List.pairwise_cons.1 hp
    obtain ⟨ih1, ih2⟩ := insert_ahead L a l hl fun x hx => ha x (List.mem_cons_of_mem _ hx)
    unfold insertBefore
    split
    · rename_i hc
      have hc : L a < L b := by simpa [before] using hc
      refine ⟨List.pairwise_cons.2 ⟨fun x hx => ?_, ih1⟩, fun x => ?_⟩
      · rcases (ih2 x).1 hx with rfl | hx
        · exact .inl hc
        · exact hb x hx
      · rw [List.mem_cons, ih2, List.mem_cons]; tauto
    · rename_i hc
      have hc : L b ≤ L a := by simpa [before] using hc
      have hab : a < b := ha b List.mem_cons_self
      refine ⟨List.pairwise_cons.2 ⟨fun x hx => ?_, hp⟩, fun x => by rw [List.mem_cons]⟩
      rcases List.mem_cons.1 hx with rfl | hx
      · rcases lt_or_eq_of_le hc with h | h
        · exact .inl h
        · exact .inr ⟨h.symm, hab⟩
      · have hax := ha x (List.mem_cons_of_mem _ hx)
        rcases hb x hx with h | ⟨h, _⟩
        · exact .inl (lt_of_lt_of_le h hc)
        · rw [h] at hc
          rcases lt_or_eq_of_le hc with h' | h'
          · exact .inl h'
          · exact .inr ⟨h'.symm, hax⟩

theorem sort_ahead (L : Fin 8 → EReal) : ∀ l : List (Fin 8), l.Pairwise (· < ·) →
    (stableSort (before L) l).Pairwise (ahead L) ∧ ∀ x, x ∈ stableSort (before L) l ↔ x ∈ l
  | [], _ => by simp [stableSort]
  | a :: l, hp => by
    obtain ⟨ha, hl⟩ := List.pairwise_cons.1 hp
    obtain ⟨ih1, ih2⟩ := sort_ahead L l hl
    obtain ⟨h1, h2⟩ := insert_ahead L a _ ih1 fun x hx => ha x ((ih2 x).1 hx)
    exact ⟨h1, fun x => by rw [List.mem_cons, ← ih2]; exact h2 x⟩

theorem best_ahead (L : Fin 8 → EReal) {j k : Fin 8} (h : j < k) : ahead L (best L j) (best L k) :=
  List.pairwise_iff_get.1 (sort_ahead L _ (List.pairwise_lt_finRange 8)).1 _ _ h

/-- The first two places of the stable sort hold the best and the second best. -/
theorem best_top2 (L : Fin 8 → EReal) : Top2 L (best L 0) (best L 1) where
  ne h := absurd (sortedFrom_injective _ h) (by decide)
  first x hx := by
    obtain ⟨k, rfl⟩ := sortedFrom_surjective (before L) x
    exact best_ahead L (Fin.pos_iff_ne_zero.2 fun h => hx (by rw [h]; rfl))
  second x hx hx' := by
    obtain ⟨k, rfl⟩ := sortedFrom_surjective (before L) x
    refine best_ahead L ?_
    have h0 : k ≠ 0 := fun h => hx (by rw [h]; rfl)
    have h1 : k ≠ 1 := fun h => hx' (by rw [h]; rfl)
    have : ∀ k : Fin 8, k ≠ 0 → k ≠ 1 → 1 < k := by decide
    exact this k h0 h1

/-- Expert `e`'s share of the token whose best experts are `i` and `j`: the softmax of the two logits. -/
def share (L : Fin 8 → EReal) (i j e : Fin 8) : EReal :=
  (if e = i then Ideal.div 1 (1 + Ideal.exp (L j - L i)) else 0)
    + if e = j then Ideal.div (Ideal.exp (L j - L i)) (1 + Ideal.exp (L j - L i)) else 0

/-- The logits of a token. -/
def logits (x : Fin 1024 → EReal) (w : Fin 1024 → Fin 8 → EReal) (e : Fin 8) : EReal := ∑ k, x k * w k e

/-- The whole expert block of one token row: the two best experts' layers, weighted by their shares, and the gated addition. -/
def experts (h g : Fin 1024 → EReal) (wr : Fin 1024 → Fin 8 → EReal) (w1 w3 : Fin 8 → Fin 1024 → Fin 3584 → EReal)
    (w2 : Fin 8 → Fin 3584 → Fin 1024 → EReal) (p : Fin 256 → EReal) (wg : Fin 1024 → Fin 1024 → EReal)
    (wp : Fin 256 → Fin 1024 → EReal) (c : Fin 1024) : EReal :=
  gated (fun d => h d + ∑ e, share (logits (unit h g) wr) (best (logits (unit h g) wr) 0) (best (logits (unit h g) wr) 1) e
    * mlp (unit h g) (w1 e) (w3 e) (w2 e) d) wg p wp c

/-! ## Finiteness -/

/-- An entry that is a real number. -/
def Real' (x : EReal) : Prop := ∃ r : ℝ, x = (r : EReal)

theorem real_mul {x y : EReal} : Real' x → Real' y → Real' (x * y) := fun ⟨a, ha⟩ ⟨b, hb⟩ => ⟨a * b, by rw [ha, hb, EReal.coe_mul]⟩

theorem coe_sum {ι : Type} [Fintype ι] (r : ι → ℝ) : ∑ i, ((r i : ℝ) : EReal) = ((∑ i, r i : ℝ) : EReal) := by
  classical
  have : ∀ t : Finset ι, ∑ i ∈ t, ((r i : ℝ) : EReal) = ((∑ i ∈ t, r i : ℝ) : EReal) := fun t => by
    induction t using Finset.induction_on with
    | empty => simp
    | insert x t hx ih => rw [Finset.sum_insert hx, Finset.sum_insert hx, ih, EReal.coe_add]
  exact this _

theorem real_sum {ι : Type} [Fintype ι] {f : ι → EReal} (h : ∀ i, Real' (f i)) : Real' (∑ i, f i) := by
  choose r hr using h
  exact ⟨∑ i, r i, by simp only [hr]; exact coe_sum r⟩

/-- The mean square's divisor, 1024. -/
theorem thousand : Ideal.ofBits .f32 0x44800000#32 = ((1024 : ℝ) : EReal) := by
  simp [Ideal.ofBits, Ideal.ieee]
  rw [← EReal.coe_mul]; norm_num

/-- The small constant under the root is a positive real. -/
theorem small : ∃ r : ℝ, 0 < r ∧ Ideal.ofBits .f32 0x358637BD#32 = (r : EReal) := by
  refine ⟨_, ?_, by simp [Ideal.ofBits, Ideal.ieee]; rfl⟩
  positivity

/-- A finite row with finite gains normalises to a finite row. -/
theorem real_unit {h g : Fin 1024 → EReal} (hh : ∀ d, Real' (h d)) (hg : ∀ d, Real' (g d)) (d : Fin 1024) : Real' (unit h g d) := by
  refine real_mul (real_mul (hh d) ?_) (hg d)
  choose r hr using hh
  obtain ⟨ε, h0, hε⟩ := small
  have hs : (∑ k, h k * h k) = ((∑ k, r k * r k : ℝ) : EReal) := by
    simp only [hr, ← EReal.coe_mul]; exact coe_sum _
  have h1 : 0 ≤ ∑ k, r k * r k := Finset.sum_nonneg fun k _ => mul_self_nonneg _
  have hd : Ideal.div (∑ k, h k * h k) (Ideal.ofBits .f32 0x44800000#32) = (((∑ k, r k * r k) / 1024 : ℝ) : EReal) := by
    rw [hs, thousand, Ideal.div, if_neg (by exact_mod_cast (by norm_num : (1024 : ℝ) ≠ 0)), ← EReal.coe_inv, ← EReal.coe_mul, div_eq_mul_inv]
  rw [hd, hε, ← EReal.coe_add]
  have hp : 0 < (∑ k, r k * r k) / 1024 + ε := by positivity
  refine ⟨(Real.sqrt ((∑ k, r k * r k) / 1024 + ε))⁻¹, ?_⟩
  show (if _ then _ else _) = _
  rw [if_neg (not_lt.2 hp.le), if_neg hp.ne']

/-- The logits of a finite row are finite. -/
theorem real_logits {x : Fin 1024 → EReal} {w : Fin 1024 → Fin 8 → EReal} (hx : ∀ d, Real' (x d)) (hw : ∀ d e, Real' (w d e)) (e : Fin 8) :
    Real' (logits x w e) := real_sum fun k => real_mul (hx k) (hw k e)

/-- The shares of finite logits are real numbers, none negative. -/
theorem share_real {L : Fin 8 → EReal} (hL : ∀ e, Real' (L e)) (i j e : Fin 8) : 0 ≤ share L i j e ∧ share L i j e ≠ ⊤ := by
  obtain ⟨a, ha⟩ := hL i
  obtain ⟨b, hb⟩ := hL j
  have he : Ideal.exp (L j - L i) = ((Real.exp (b - a) : ℝ) : EReal) := by rw [ha, hb, ← EReal.coe_sub]; rfl
  have hx := Real.exp_pos (b - a)
  have hd : (1 : EReal) + Ideal.exp (L j - L i) = ((1 + Real.exp (b - a) : ℝ) : EReal) := by rw [he, EReal.coe_add, EReal.coe_one]
  have hdiv : ∀ y : ℝ, Ideal.div (y : EReal) (1 + Ideal.exp (L j - L i)) = ((y / (1 + Real.exp (b - a)) : ℝ) : EReal) := fun y => by
    rw [hd, Ideal.div, if_neg (by exact_mod_cast (by positivity : (1 + Real.exp (b - a)) ≠ 0)), ← EReal.coe_inv, ← EReal.coe_mul, div_eq_mul_inv]
  have hs : ∃ r : ℝ, 0 ≤ r ∧ share L i j e = (r : EReal) := by
    refine ⟨(if e = i then 1 / (1 + Real.exp (b - a)) else 0) + (if e = j then Real.exp (b - a) / (1 + Real.exp (b - a)) else 0), ?_, ?_⟩
    · split <;> split <;> positivity
    · have h1 := hdiv 1
      have h2 := hdiv (Real.exp (b - a))
      rw [EReal.coe_one] at h1
      rw [← he] at h2
      unfold share
      rw [h1, h2, EReal.coe_add]
      split <;> split <;> simp
  obtain ⟨r, h0, hr⟩ := hs
  rw [hr]
  exact ⟨by exact_mod_cast h0, EReal.coe_ne_top _⟩

/-- A share moves through the sum of the hidden units. -/
theorem share_mlp {ι : Type} [Fintype ι] {s : EReal} (h0 : 0 ≤ s) (h1 : s ≠ ⊤) (a b : ι → EReal) :
    (∑ f, a f * s * b f) = s * ∑ f, a f * b f := by
  classical
  have : ∀ t : Finset ι, (∑ f ∈ t, a f * s * b f) = s * ∑ f ∈ t, a f * b f := fun t => by
    induction t using Finset.induction_on with
    | empty => simp
    | insert x t hx ih =>
      rw [Finset.sum_insert hx, Finset.sum_insert hx, EReal.left_distrib_of_nonneg_of_ne_top h0 h1, ih, mul_comm (a x) s, mul_assoc]
  exact this _

/-- The hidden units of eight experts, taken expert by expert in four groups of 896. -/
theorem groups (a : Fin 8 → Fin 3584 → EReal) :
    (∑ n ∈ Finset.range 32, ∑ f : Fin 896, a ⟨n / 4 % 8, Nat.mod_lt _ (by decide)⟩ ⟨896 * (n % 4) + f.val, by omega⟩) = ∑ e, ∑ f, a e f := by
  rw [Finset.sum_range, ← (finProdFinEquiv (m := 8) (n := 4)).sum_comp, Fintype.sum_prod_type]
  refine Finset.sum_congr rfl fun e _ => ?_
  rw [← (finProdFinEquiv (m := 4) (n := 896)).sum_comp, Fintype.sum_prod_type]
  refine Finset.sum_congr rfl fun j _ => Finset.sum_congr rfl fun f _ => ?_
  have he : (j.val + 4 * e.val) / 4 % 8 = e.val := by omega
  have hj : (j.val + 4 * e.val) % 4 = j.val := by omega
  refine congrArg₂ a (Fin.ext he) (Fin.ext ?_)
  show 896 * ((j.val + 4 * e.val) % 4) + f.val = f.val + 896 * j.val
  omega

end Layer

end
-- ==== Proof.Moe.Block.lean ====
/-
  What the expert kernel's body computes, entry by entry over the extended reals: the normalised rows, the two best experts
  of a token and their shares, the part a grid point adds, and the gated addition.
-/
module
public import proofs.«01_k».proof.Proof.Moe.Points
public import proofs.«01_k».proof.Proof.Layer.Plain
@[expose] public section
set_option maxRecDepth 16384
noncomputable section
open Idealize.ShloMosaic
namespace Cert.Kernel3Ideal.Body
open Cert.Kernel3Ideal Cert.Kernel3Ideal.Gen

/-- A product of two matrices on the matrix unit, with nothing accumulated, is the sum over the shared axis. -/
theorem mm {M K N : ℕ} {φ₁ φ₂ : FTy} (pr : Option ContractPrecision) (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (r : Fin M) (c : Fin N) :
    matmul d pr a b (constant ⟨2, ![M, N]⟩ .f32 0x00000000#32 : FVec Ideal ⟨2, ![M, N]⟩ .f32) (ix2 r c)
      = ∑ k : Fin K, (a (ix2 r k) : EReal) * b (ix2 k c) := by
  subst hd
  refine (Ideal.matmul_plain_apply _ _ _ _ _ _).trans ?_
  exact (congrArg (· + _) Ideal.ofBits_zero_f32).trans (zero_add _)

/-! ## The eight lanes of one token -/

theorem bits_bot : Ideal.ofBits .f32 0xFF800000#32 = (⊥ : EReal) := by simp [Ideal.ofBits, Ideal.ieee]

/-- The greatest of eight, when one of them is known to be it. -/
theorem fold_max (f : Fin 8 → EReal) (i : Fin 8) (h : ∀ x, f x ≤ f i) : Finset.univ.fold max (⊥ : EReal) f = f i :=
  le_antisymm ((Finset.fold_max_le _).2 ⟨bot_le, fun x _ => h x⟩) (Finset.le_fold_max _ |>.2 (.inr ⟨i, Finset.mem_univ _, le_rfl⟩))

theorem fold_min_all : ∀ (p : Fin 8 → Bool) (i : Fin 8), p i = true → (∀ x, x < i → p x = false) →
    Finset.univ.fold IntOp.minsi 2147483647#32 (fun x : Fin 8 => if p x = true then BitVec.ofNat 32 x.val else 8#32) = BitVec.ofNat 32 i.val := by
  decide +kernel

/-- The lowest lane where a property holds. -/
theorem fold_min (P : Fin 8 → Prop) [DecidablePred P] (i : Fin 8) (hi : P i) (hx : ∀ x, x < i → ¬P x) :
    Finset.univ.fold IntOp.minsi 2147483647#32 (fun x : Fin 8 => if P x then BitVec.ofNat 32 x.val else 8#32) = BitVec.ofNat 32 i.val := by
  have h := fold_min_all (fun x => decide (P x)) i (decide_eq_true hi) fun x h => decide_eq_false (hx x h)
  simpa only [decide_eq_true_eq] using h

theorem lane_eq : ∀ e i : Fin 8, IntOp.cmpi .eq (BitVec.ofNat 32 e.val) (BitVec.ofNat 32 i.val) = if e = i then 1#1 else 0#1 := by
  decide +kernel

/-- A choice between two values by whether a lane is the chosen one. -/
theorem select_lane {α : Type} (e i : Fin 8) (a b : α) :
    Scalar.select (IntOp.cmpi .eq (BitVec.ofNat 32 e.val) (BitVec.ofNat 32 i.val)) a b = if e = i then a else b := by
  rw [lane_eq]
  by_cases h : e = i <;> simp [h, Scalar.select]

/-! ## The payloads at a row and a column -/

/-- The normalised block. -/
theorem pay2_apply (h : Vec Ideal S512x1024 .f32) (g : Vec Ideal S1x1024 .f32) (r : Fin 512) (d : Fin 1024) :
    k0_pay2 h g (ix2 r d) = Layer.unit (fun k => h (ix2 r k)) (fun k => g (ix2 0 k)) d := by
  pointwise [k0_pay2, Layer.unit]

/-- The normalised block kept for the later points. -/
theorem pay3_apply (h : Vec Ideal S512x1024 .f32) (g : Vec Ideal S1x1024 .f32) (r : Fin 512) (d : Fin 1024) :
    k0_pay3 h g (ix2 r d) = Layer.unit (fun k => h (ix2 r k)) (fun k => g (ix2 0 k)) d := by
  unfold k0_pay3
  simp only [shapeCast_self]
  exact pay2_apply h g r d

/-- The logits of one token of the block. -/
def lg (h : Vec Ideal S512x1024 .f32) (g : Vec Ideal S1x1024 .f32) (w : Vec Ideal S1024x8 .f32) (r : Fin 512) : Fin 8 → EReal :=
  Layer.logits (Layer.unit (fun k => h (ix2 r k)) (fun k => g (ix2 0 k))) (fun k e => w (ix2 k e))

theorem pay4_apply (h : Vec Ideal S512x1024 .f32) (g : Vec Ideal S1x1024 .f32) (w : Vec Ideal S1024x8 .f32) (r : Fin 512) (e : Fin 8) :
    k0_pay4 h g w (ix2 r e) = lg h g w r e := by
  unfold k0_pay4 lg Layer.logits
  refine (mm (φ₁ := .f32) (φ₂ := .f32) (M := 512) (K := 1024) (N := 8) _ _ rfl _ _ _ _).trans ?_
  simp only [pay2_apply]

section Route

variable (h : Vec Ideal S512x1024 .f32) (g : Vec Ideal S1x1024 .f32) (w : Vec Ideal S1024x8 .f32) (r : Fin 512) {i j : Fin 8}

/-- The greatest logit is the best expert's. -/
theorem pay5_apply (t : Layer.Top2 (lg h g w r) i j) : k0_pay5 h g w (ix2 r 0) = lg h g w r i := by
  have e : k0_pay5 h g w (ix2 r 0) = Finset.univ.fold max (Ideal.ofBits .f32 0xFF800000#32) (fun x => k0_pay4 h g w (ix2 r x)) := by
    unfold k0_pay5
    generalize k0_pay4 h g w = L
    pointwise []
  rw [e, bits_bot]
  simp only [pay4_apply]
  exact fold_max _ i t.le

/-- The lowest lane that holds it is the best expert. -/
theorem pay6_apply (t : Layer.Top2 (lg h g w r) i j) : k0_pay6 h g w (ix2 r 0) = BitVec.ofNat 32 i.val := by
  have e : k0_pay6 h g w (ix2 r 0)
      = Finset.univ.fold IntOp.minsi 2147483647#32 (fun x : Fin 8 => if (k0_pay4 h g w (ix2 r x) : EReal) = k0_pay5 h g w (ix2 r 0) then BitVec.ofNat 32 x.val else 8#32) := by
    unfold k0_pay6
    generalize k0_pay4 h g w = L
    generalize k0_pay5 h g w = M
    pointwise []
  rw [e]
  simp only [pay4_apply, pay5_apply h g w r t]
  exact fold_min _ i rfl fun x hx => t.not_below hx

/-- The logits with the best expert's struck out. -/
theorem pay7_apply (t : Layer.Top2 (lg h g w r) i j) (e : Fin 8) :
    k0_pay7 h g w (ix2 r e) = if e = i then (⊥ : EReal) else lg h g w r e := by
  have E : k0_pay7 h g w (ix2 r e) = Scalar.select (IntOp.cmpi .eq (BitVec.ofNat 32 e.val) (k0_pay6 h g w (ix2 r 0)))
      (Ideal.ofBits .f32 0xFF800000#32) (k0_pay4 h g w (ix2 r e)) := by
    unfold k0_pay7
    generalize k0_pay4 h g w = L
    generalize k0_pay6 h g w = M
    pointwise []
  rw [E, pay6_apply h g w r t, select_lane, bits_bot, pay4_apply]

/-- The greatest of the rest is the second expert's logit. -/
theorem pay8_apply (t : Layer.Top2 (lg h g w r) i j) : k0_pay8 h g w (ix2 r 0) = lg h g w r j := by
  have e : k0_pay8 h g w (ix2 r 0) = Finset.univ.fold max (Ideal.ofBits .f32 0xFF800000#32) (fun x => k0_pay7 h g w (ix2 r x)) := by
    unfold k0_pay8
    generalize k0_pay7 h g w = L
    pointwise []
  rw [e, bits_bot]
  simp only [pay7_apply h g w r t]
  refine (fold_max _ j fun x => ?_).trans (if_neg t.ne)
  rw [if_neg t.ne]
  split
  · exact bot_le
  · rename_i hx; exact t.le' hx

/-- The lowest lane of the rest that holds it is the second expert. -/
theorem pay9_fold (t : Layer.Top2 (lg h g w r) i j) (hr : ∀ e, Layer.Real' (lg h g w r e)) :
    Finset.univ.fold IntOp.minsi 2147483647#32 (fun x : Fin 8 => k0_pay9 h g w (ix2 r x)) = BitVec.ofNat 32 j.val := by
  have e : ∀ x : Fin 8, k0_pay9 h g w (ix2 r x)
      = if (k0_pay7 h g w (ix2 r x) : EReal) = k0_pay8 h g w (ix2 r 0) then BitVec.ofNat 32 x.val else 8#32 := by
    intro x
    unfold k0_pay9
    generalize k0_pay7 h g w = L
    generalize k0_pay8 h g w = M
    pointwise []
  simp only [e, pay7_apply h g w r t, pay8_apply h g w r t]
  refine fold_min _ j (if_neg t.ne) fun x hx => ?_
  obtain ⟨y, hy⟩ := hr j
  split
  · rw [hy]; exact (EReal.bot_lt_coe y).ne
  · rename_i hi; exact t.not_below' hi hx

end Route

/-- The eight shares of a token of the block. -/
theorem shares_apply (h : Vec Ideal S512x1024 .f32) (g : Vec Ideal S1x1024 .f32) (w : Vec Ideal S1024x8 .f32) (r : Fin 512) {i j : Fin 8}
    (t : Layer.Top2 (lg h g w r) i j) (hr : ∀ e, Layer.Real' (lg h g w r e)) (e : Fin 8) :
    shares h g w (ix2 r e) = Layer.share (lg h g w r) i j e := by
  have E : ∀ (v61 v73 : FVec Ideal S512x1 .f32) (v67 : IVec S512x1 32) (v77 : IVec S512x8 32),
      k0_pay10 (iota .tc S512x8 32 [1] iota_S512x8_d1_w32) v61 v67 v73 v77 (ix2 r e)
        = (Scalar.select (IntOp.cmpi .eq (BitVec.ofNat 32 e.val) (v67 (ix2 r 0)))
            (Ideal.div 1 (1 + Ideal.exp ((v73 (ix2 r 0) : EReal) - v61 (ix2 r 0)))) 0 : EReal)
          + Scalar.select (IntOp.cmpi .eq (BitVec.ofNat 32 e.val) (Finset.univ.fold IntOp.minsi 2147483647#32 (fun x : Fin 8 => v77 (ix2 r x))))
            (Ideal.div (Ideal.exp ((v73 (ix2 r 0) : EReal) - v61 (ix2 r 0))) (1 + Ideal.exp ((v73 (ix2 r 0) : EReal) - v61 (ix2 r 0)))) 0 := by
    intro v61 v73 v67 v77
    unfold k0_pay10
    pointwise []
  unfold shares Layer.share
  rw [E, pay6_apply h g w r t, pay5_apply h g w r t, pay8_apply h g w r t, pay9_fold h g w r t hr, select_lane, select_lane]

/-- What a point adds to the output rows: its group of an expert's hidden units, weighted by the token's share of that expert. -/
theorem pay11_apply (i : grid0.Coords) (e : Fin 8) (he : (i 1).val = e.val) (v5 : Vec Ideal S512x8 .f32) (v13 : Vec Ideal S512x1024 .f32)
    (v15 : Vec Ideal S512x1024 .bf16) (v16 v18 : Vec Ideal S1x1024x896 .bf16) (v20 : Vec Ideal S1x896x1024 .bf16) (r : Fin 512) (d : Fin 1024) :
    k0_pay11 i v5 v13 v15 v16 v18 v20 (ix2 r d)
      = (v13 (ix2 r d) : EReal) + ∑ f : Fin 896, Layer.hidden (fun k => v15 (ix2 r k)) (fun k f => v16 (ix3 0 k f)) (fun k f => v18 (ix3 0 k f)) f
          * v5 (ix2 r e) * v20 (ix3 0 f d) := by
  have hs : ∀ f : Fin 896, broadcastTo S512x896 (shapeCast S512x1 (multiReduction .add [1] S512 (select (cmpi .eq (iota .tc S512x8 32 [1] iota_S512x8_d1_w32)
      (broadcast S512x8 (BitVec.ofNat 32 (i 1).val))) v5 (broadcast S512x8 (Scalar.ofBits .f32 0x00000000#32 : Ideal .f32))) 0x00000000#32 reduces_S512x8_S512 (.inl rfl) rfl)
        shapeCasts_S512_S512x1) broadcasts_S512x1_S512x896 (ix2 r f) = (v5 (ix2 r e) : EReal) := by
    intro f
    rw [he]
    trans ∑ x : Fin 8, (Scalar.select (IntOp.cmpi .eq (BitVec.ofNat 32 x.val) (BitVec.ofNat 32 e.val)) (v5 (ix2 r x)) 0 : EReal)
    · pointwise []
    · simp only [select_lane]
      exact (Finset.sum_ite_eq' _ e _).trans (if_pos (Finset.mem_univ _))
  unfold k0_pay11
  simp only [shapeCast_self]
  refine congrArg (_ + ·) ?_
  refine (mm (φ₁ := .bf16) (φ₂ := .bf16) (M := 512) (K := 896) (N := 1024) _ _ rfl _ _ _ _).trans ?_
  refine Finset.sum_congr rfl fun f _ => congrArg₂ (· * ·) (congrArg₂ (· * ·) ?_ (hs f)) ?_
  · refine congrArg₂ (· * ·) (congrArg₂ (· * ·) ?_ (congrArg Ideal.logistic ?_)) ?_ <;>
      refine (mm (φ₁ := .bf16) (φ₂ := .bf16) (M := 512) (K := 1024) (N := 896) _ _ rfl _ _ _ _).trans
        (Finset.sum_congr rfl fun k _ => congrArg (_ * ·) ?_) <;> pointwise []
  · pointwise []

/-- What the last point stores: the gated addition. -/
theorem pay1_apply (o : Vec Ideal S512x1024 .f32) (wg : Vec Ideal S1024x1024 .bf16) (p : Vec Ideal S512x256 .f32) (wp : Vec Ideal S256x1024 .bf16)
    (r : Fin 512) (d : Fin 1024) :
    k0_pay1 o wg p wp (ix2 r d)
      = Layer.gated (fun k => o (ix2 r k)) (fun k d => wg (ix2 k d)) (fun k => p (ix2 r k)) (fun k d => wp (ix2 k d)) d := by
  unfold k0_pay1 Layer.gated
  simp only [shapeCast_self]
  refine congrArg (_ + ·) (congrArg₂ (· * ·) (congrArg Ideal.logistic ?_) ?_)
  · exact mm (φ₁ := .bf16) (φ₂ := .bf16) (M := 512) (K := 1024) (N := 1024) _ _ rfl _ _ _ _
  · exact mm (φ₁ := .bf16) (φ₂ := .bf16) (M := 512) (K := 256) (N := 1024) _ _ rfl _ _ _ _

end Cert.Kernel3Ideal.Body

end
-- ==== Proof.Ffn.Points.lean ====
/-
  What the feed-forward kernel's body leaves in its output block and in its scratch block at each of the two points of a
  block of rows, and these contents entry by entry over the extended reals.
-/
module

public import proofs.«01_k».proof.Proof.Moe.Block
public import proofs.«01_k».proof.Proof.Gen.Kernel2Ideal.Frame

@[expose] public section

set_option maxRecDepth 16384

noncomputable section

namespace Cert.Kernel2Ideal.Body

open Cert.Kernel2Ideal Cert.Kernel2Ideal.Gen Idealize.ShloMosaic Idealize.ShloMosaic.TcCoe
open Cert.Kernel3Ideal.Body (mm whole_ld zero2)

section Points

variable {F : FTy → Type} [FloatOps F]
variable (m : (ℓ : Loc nD τ sig) → Buf (Elt F) ℓ)

/-- The first point of a row block normalises the rows and adds the first half of the hidden units to the input rows. -/
theorem outs_A (c : Dev nD) (t : Fin cfg0.N) (h0 : t.val % 2 = 0) (h1 : ¬ t.val % 2 = 1) :
    outsAt0 m c t.val t.isLt
      = (k0_pay2 (iblk m c 0 t) (k0_pay1 (iblk m c 0 t) (iblk m c 1 t)) (iblk m c 2 t) (iblk m c 3 t) (iblk m c 4 t),
        k0_pay1 (iblk m c 0 t) (iblk m c 1 t)) := by
  have e0 := whole_ld (Val := Elt F) (hs0_0 t) (iblk m c 0 t) zero2 inb_S512x1024_S512x1024_0_0
  have e1 := whole_ld (Val := Elt F) (hs0_1 t) (iblk m c 1 t) zero2 inb_S1x1024_S1x1024_0_0
  have e2 := whole_ld (Val := Elt F) (hs0_2 t) (iblk m c 2 t) zero2 inb_S1024x1408_S1024x1408_0_0
  have e3 := whole_ld (Val := Elt F) (hs0_3 t) (iblk m c 3 t) zero2 inb_S1024x1408_S1024x1408_0_0
  have e4 := whole_ld (Val := Elt F) (hs0_4 t) (iblk m c 4 t) zero2 inb_S1408x1024_S1408x1024_0_0
  rw [outsAt0_A m c t h0 h1]
  refine Prod.ext ?_ ?_
  · dsimp only
    unfold out0_A_8
    dsimp only [kernelRun0_A]
    rw [View.read_writes_junk_eq_canon]
    refine (View.canon_cons_unit_zero zero2 _ _ _).trans ?_
    refine congr (congr (congr (congr (congrArg _ ?_) ?_) e2) e3) e4
    · dsimp only [kernelRun0_A.sl.v3, kernelRun0_A.sl.H8_1]
      refine (View.readCov_cons_toLoadRect _ _ _ _).trans ?_
      exact e0
    · dsimp only [kernelRun0_A.sl.v5, kernelRun0_A.sl.HS0_1]
      refine (View.readCov_cons_toLoadRect _ _ _ _).trans ?_
      exact congr (congrArg _ e0) e1
  · dsimp only
    unfold sout0_A_0
    dsimp only [kernelRun0_A, kernelRun0_A.sl.HS0_1]
    rw [View.read_writes_junk_eq_canon]
    refine (View.canon_unit_zero zero2 _ _).trans ?_
    exact congr (congrArg _ e0) e1

/-- The second point of a row block adds the second half of the hidden units and ends with the gated addition. -/
theorem outs_B (c : Dev nD) (t : Fin cfg0.N) (h0 : ¬t.val % 2 = 0) (h1 : t.val % 2 = 1)
    (p) (hp : outsAt0 m c (t.val - 1) (Nat.lt_of_le_of_lt (Nat.sub_le _ _) t.isLt) = p) :
    (outsAt0 m c t.val t.isLt).1
      = k0_pay3 (k0_pay2 p.1 p.2 (iblk m c 2 t) (iblk m c 3 t) (iblk m c 4 t)) (iblk m c 6 t) (iblk m c 5 t) (iblk m c 7 t) := by
  rw [outsAt0_B m c t h0 h1, hp]
  dsimp only
  unfold out0_B_8
  dsimp only [kernelRun0_B, kernelRun0_B.sl.v24, kernelRun0_B.sl.H8_1]
  rw [View.read_writes_junk_eq_canon]
  refine (View.canon_cons_unit_zero zero2 _ _ _).trans ?_
  have e1 := whole_ld (Val := Elt F) (hs0_8 t) p.1 zero2 inb_S512x1024_S512x1024_0_0
  have e2 := whole_ld (Val := Elt F) (Memref.isWhole_whole cc0_scratch0) p.2 zero2 inb_S512x1024_S512x1024_0_0
  have e3 := whole_ld (Val := Elt F) (hs0_2 t) (iblk m c 2 t) zero2 inb_S1024x1408_S1024x1408_0_0
  have e4 := whole_ld (Val := Elt F) (hs0_3 t) (iblk m c 3 t) zero2 inb_S1024x1408_S1024x1408_0_0
  have e5 := whole_ld (Val := Elt F) (hs0_4 t) (iblk m c 4 t) zero2 inb_S1408x1024_S1408x1024_0_0
  have e6 := whole_ld (Val := Elt F) (hs0_6 t) (iblk m c 6 t) zero2 inb_S1024x1024_S1024x1024_0_0
  have e7 := whole_ld (Val := Elt F) (hs0_5 t) (iblk m c 5 t) zero2 inb_S512x256_S512x256_0_0
  have e8 := whole_ld (Val := Elt F) (hs0_7 t) (iblk m c 7 t) zero2 inb_S256x1024_S256x1024_0_0
  refine congr (congr (congr (congrArg _ ?_) e6) e7) e8
  refine (View.readCov_cons_toLoadRect _ _ _ _).trans ?_
  exact congr (congr (congr (congr (congrArg _ e1) e2) e3) e4) e5

end Points

/-- The normalised block. -/
theorem pay1_apply (h : Vec Ideal S512x1024 .f32) (g : Vec Ideal S1x1024 .f32) (r : Fin 512) (d : Fin 1024) :
    k0_pay1 h g (ix2 r d) = Layer.unit (fun k => h (ix2 r k)) (fun k => g (ix2 0 k)) d := by
  unfold k0_pay1
  simp only [shapeCast_self]
  pointwise [Layer.unit]

/-- What a point adds to the output rows: half of the hidden units. -/
theorem pay2_apply (o : Vec Ideal S512x1024 .f32) (x : Vec Ideal S512x1024 .bf16) (w1 w3 : Vec Ideal S1024x1408 .bf16)
    (w2 : Vec Ideal S1408x1024 .bf16) (r : Fin 512) (d : Fin 1024) :
    k0_pay2 o x w1 w3 w2 (ix2 r d)
      = (o (ix2 r d) : EReal) + Layer.mlp (fun k => x (ix2 r k)) (fun k f => w1 (ix2 k f)) (fun k f => w3 (ix2 k f)) (fun f k => w2 (ix2 f k)) d := by
  unfold k0_pay2 Layer.mlp Layer.hidden
  simp only [shapeCast_self]
  refine congrArg (_ + ·) ?_
  refine (mm (φ₁ := .bf16) (φ₂ := .bf16) (M := 512) (K := 1408) (N := 1024) _ _ rfl _ _ _ _).trans ?_
  refine Finset.sum_congr rfl fun f _ => congrArg (· * _) ?_
  refine congrArg₂ (· * ·) (congrArg₂ (· * ·) ?_ (congrArg Ideal.logistic ?_)) ?_ <;>
    exact mm (φ₁ := .bf16) (φ₂ := .bf16) (M := 512) (K := 1024) (N := 1408) _ _ rfl _ _ _ _

/-- What the second point stores: the gated addition. -/
theorem pay3_apply (o : Vec Ideal S512x1024 .f32) (wg : Vec Ideal S1024x1024 .bf16) (p : Vec Ideal S512x256 .f32) (wp : Vec Ideal S256x1024 .bf16)
    (r : Fin 512) (d : Fin 1024) :
    k0_pay3 o wg p wp (ix2 r d)
      = Layer.gated (fun k => o (ix2 r k)) (fun k d => wg (ix2 k d)) (fun k => p (ix2 r k)) (fun k d => wp (ix2 k d)) d := by
  unfold k0_pay3 Layer.gated
  simp only [shapeCast_self]
  refine congrArg (_ + ·) (congrArg₂ (· * ·) (congrArg Ideal.logistic ?_) ?_)
  · exact mm (φ₁ := .bf16) (φ₂ := .bf16) (M := 512) (K := 1024) (N := 1024) _ _ rfl _ _ _ _
  · exact mm (φ₁ := .bf16) (φ₂ := .bf16) (M := 512) (K := 256) (N := 1024) _ _ rfl _ _ _ _

end Cert.Kernel2Ideal.Body

end
-- ==== Proof.Ffn.Array.lean ====
/-
  The feed-forward kernel's output array after its run, entry by entry: the two grid points of a block of 512 rows add the
  two halves of the hidden units to the rows; the second makes the gated addition.
-/
module

public import proofs.«01_k».proof.Proof.Ffn.Points
public import proofs.«01_k».proof.Proof.Gen.Kernel2Ideal.Value

@[expose] public section

set_option maxRecDepth 16384

noncomputable section

namespace Cert.Kernel2Ideal.Body

open Cert.Kernel2Ideal Cert.Kernel2Ideal.Gen Idealize.ShloMosaic Idealize.ShloMosaic.TcCoe

variable (m : (ℓ : Loc nD τ sig) → Buf (Elt Ideal) ℓ) (c : Dev nD)

/-! The arguments' rows and matrices. -/

def tok (t : Fin 65536) (d : Fin 1024) : EReal := m ((c : Thread nD τ).loc main_arg0) (ix2 t d)
def gain (d : Fin 1024) : EReal := m ((c : Thread nD τ).loc main_arg1) (ix1 d)
def wa (k : Fin 1024) (f : Fin 2816) : EReal := m ((c : Thread nD τ).loc main_arg2) (ix2 k f)
def wb (k : Fin 1024) (f : Fin 2816) : EReal := m ((c : Thread nD τ).loc main_arg3) (ix2 k f)
def wc (f : Fin 2816) (d : Fin 1024) : EReal := m ((c : Thread nD τ).loc main_arg4) (ix2 f d)
def side (t : Fin 65536) (d : Fin 256) : EReal := m ((c : Thread nD τ).loc main_arg5) (ix2 t d)
def gateW (k d : Fin 1024) : EReal := m ((c : Thread nD τ).loc main_arg6) (ix2 k d)
def sideW (k : Fin 256) (d : Fin 1024) : EReal := m ((c : Thread nD τ).loc main_arg7) (ix2 k d)

/-- The blocks of rows at each grid point. -/
theorem index_rows : ∀ t : Fin cfg0.N, win0_0.index t = ![t.val / 2, 0] ∧ win0_5.index t = ![t.val / 2, 0] :=
  (by decide +kernel : ∀ t : Fin grid0.N, win0_0.index t = ![t.val / 2, 0] ∧ win0_5.index t = ![t.val / 2, 0])

/-- The halves of the weights at each grid point. -/
theorem index_halves : ∀ t : Fin cfg0.N, win0_2.index t = ![0, t.val % 2] ∧ win0_3.index t = ![0, t.val % 2] ∧ win0_4.index t = ![t.val % 2, 0] :=
  (by decide +kernel : ∀ t : Fin grid0.N, win0_2.index t = ![0, t.val % 2] ∧ win0_3.index t = ![0, t.val % 2] ∧ win0_4.index t = ![t.val % 2, 0])

/-- The small arrays are read whole at every grid point. -/
theorem index_whole : ∀ t : Fin cfg0.N, win0_1.index t = ![0, 0] ∧ win0_6.index t = ![0, 0] ∧ win0_7.index t = ![0, 0] :=
  (by decide +kernel : ∀ t : Fin grid0.N, win0_1.index t = ![0, 0] ∧ win0_6.index t = ![0, 0] ∧ win0_7.index t = ![0, 0])

/-- The gain reaches the call as a matrix of one row. -/
theorem V_v0 : V m c main_v0 = (broadcastInDim S1x1024 ![1] bcast_S1024_S1x1024_1 (m ((c : Thread nD τ).loc main_arg1)) : FVec Ideal S1x1024 .f32) := by
  show StableHlo.after hostOps0 (fun b => m (c, b)) main_v0 = _
  after_results_simp

/-- Argument 2 reaches the call in the narrower format, which rounds nothing here. -/
theorem V_v1 : V m c main_v1 = (truncf .bf16 (m ((c : Thread nD τ).loc main_arg2)) bitsLt_bf16_f32 : FVec Ideal S1024x2816 .bf16) := by
  show StableHlo.after hostOps0 (fun b => m (c, b)) main_v1 = _
  after_results_simp

/-- Argument 3 reaches the call in the narrower format, which rounds nothing here. -/
theorem V_v2 : V m c main_v2 = (truncf .bf16 (m ((c : Thread nD τ).loc main_arg3)) bitsLt_bf16_f32 : FVec Ideal S1024x2816 .bf16) := by
  show StableHlo.after hostOps0 (fun b => m (c, b)) main_v2 = _
  after_results_simp

/-- Argument 4 reaches the call in the narrower format, which rounds nothing here. -/
theorem V_v3 : V m c main_v3 = (truncf .bf16 (m ((c : Thread nD τ).loc main_arg4)) bitsLt_bf16_f32 : FVec Ideal S2816x1024 .bf16) := by
  show StableHlo.after hostOps0 (fun b => m (c, b)) main_v3 = _
  after_results_simp

/-- Argument 6 reaches the call in the narrower format, which rounds nothing here. -/
theorem V_v4 : V m c main_v4 = (truncf .bf16 (m ((c : Thread nD τ).loc main_arg6)) bitsLt_bf16_f32 : FVec Ideal S1024x1024 .bf16) := by
  show StableHlo.after hostOps0 (fun b => m (c, b)) main_v4 = _
  after_results_simp

/-- Argument 7 reaches the call in the narrower format, which rounds nothing here. -/
theorem V_v5 : V m c main_v5 = (truncf .bf16 (m ((c : Thread nD τ).loc main_arg7)) bitsLt_bf16_f32 : FVec Ideal S256x1024 .bf16) := by
  show StableHlo.after hostOps0 (fun b => m (c, b)) main_v5 = _
  after_results_simp

/-- Rows of argument 0 that a grid point takes. -/
theorem blk0 (t : Fin 256) (r : Fin 512) (d : Fin 1024) :
    iblk m c 0 t (ix2 r d) = tok m c (⟨512 * (t.val / 2) + r.val, by omega⟩ : Fin 65536) d := by
  refine Eq.trans (congrArg (V m c (Pipeline.arrRef spec0 0)) (?_ : _ = ix2 (⟨512 * (t.val / 2) + r.val, by omega⟩ : Fin 65536) d)) (congrFun (V_main_arg0 m c) _)
  funext a
  have hi := (index_rows t).1
  match a with
  | ⟨0, _⟩ => exact Fin.ext (by show win0_0.index t 0 * 512 + 1 * r.val = 512 * (t.val / 2) + r.val; rw [hi]; simp; omega)
  | ⟨1, _⟩ => exact Fin.ext (by show win0_0.index t 1 * 1024 + 1 * d.val = d.val; rw [hi]; simp)

/-- Rows of argument 5 that a grid point takes. -/
theorem blk5 (t : Fin 256) (r : Fin 512) (d : Fin 256) :
    iblk m c 5 t (ix2 r d) = side m c (⟨512 * (t.val / 2) + r.val, by omega⟩ : Fin 65536) d := by
  refine Eq.trans (congrArg (V m c (Pipeline.arrRef spec0 5)) (?_ : _ = ix2 (⟨512 * (t.val / 2) + r.val, by omega⟩ : Fin 65536) d)) (congrFun (V_main_arg5 m c) _)
  funext a
  have hi := (index_rows t).2
  match a with
  | ⟨0, _⟩ => exact Fin.ext (by show win0_5.index t 0 * 512 + 1 * r.val = 512 * (t.val / 2) + r.val; rw [hi]; simp; omega)
  | ⟨1, _⟩ => exact Fin.ext (by show win0_5.index t 1 * 256 + 1 * d.val = d.val; rw [hi]; simp)

/-- The gain's block is the gain. -/
theorem blk1 (t : Fin 256) (d : Fin 1024) : iblk m c 1 t (ix2 0 d) = gain m c d := by
  refine Eq.trans (congrArg (V m c (Pipeline.arrRef spec0 1)) (?_ : _ = ix2 (0 : Fin 1) d)) ((congrFun (V_v0 m c) _).trans ?_)
  · funext a
    have hi := (index_whole t).1
    match a with
    | ⟨0, _⟩ => exact Fin.ext (by show win0_1.index t 0 * 1 + 1 * 0 = 0; rw [hi]; simp)
    | ⟨1, _⟩ => exact Fin.ext (by show win0_1.index t 1 * 1024 + 1 * d.val = d.val; rw [hi]; simp)
  · unfold gain
    pointwise

/-- The block of window 6 is its whole array. -/
theorem blk6 (t : Fin 256) (k : Fin 1024) (f : Fin 1024) : iblk m c 6 t (ix2 k f) = gateW m c k f := by
  refine Eq.trans (congrArg (V m c (Pipeline.arrRef spec0 6)) (?_ : _ = ix2 k f)) (congrFun (V_v4 m c) _)
  funext a
  have hi := (index_whole t).2.1
  match a with
  | ⟨0, _⟩ => exact Fin.ext (by show win0_6.index t 0 * 1024 + 1 * k.val = k.val; rw [hi]; simp)
  | ⟨1, _⟩ => exact Fin.ext (by show win0_6.index t 1 * 1024 + 1 * f.val = f.val; rw [hi]; simp)

/-- The block of window 7 is its whole array. -/
theorem blk7 (t : Fin 256) (k : Fin 256) (f : Fin 1024) : iblk m c 7 t (ix2 k f) = sideW m c k f := by
  refine Eq.trans (congrArg (V m c (Pipeline.arrRef spec0 7)) (?_ : _ = ix2 k f)) (congrFun (V_v5 m c) _)
  funext a
  have hi := (index_whole t).2.2
  match a with
  | ⟨0, _⟩ => exact Fin.ext (by show win0_7.index t 0 * 256 + 1 * k.val = k.val; rw [hi]; simp)
  | ⟨1, _⟩ => exact Fin.ext (by show win0_7.index t 1 * 1024 + 1 * f.val = f.val; rw [hi]; simp)

/-- A hidden unit of a grid point's half. -/
def un (n : ℕ) (f : Fin 1408) : Fin 2816 := ⟨1408 * (n % 2) + f.val, by omega⟩

/-- The block of window 2: the point's half of the hidden units. -/
theorem blk2 (t : Fin 256) (k : Fin 1024) (f : Fin 1408) : iblk m c 2 t (ix2 k f) = wa m c k (un t.val f) := by
  refine Eq.trans (congrArg (V m c (Pipeline.arrRef spec0 2)) (?_ : _ = ix2 k (un t.val f))) (congrFun (V_v1 m c) _)
  funext a
  have hi := (index_halves t).1
  match a with
  | ⟨0, _⟩ => exact Fin.ext (by show win0_2.index t 0 * 1024 + 1 * k.val = k.val; rw [hi]; simp)
  | ⟨1, _⟩ => exact Fin.ext (by show win0_2.index t 1 * 1408 + 1 * f.val = 1408 * (t.val % 2) + f.val; rw [hi]; simp; omega)

/-- The block of window 3: the point's half of the hidden units. -/
theorem blk3 (t : Fin 256) (k : Fin 1024) (f : Fin 1408) : iblk m c 3 t (ix2 k f) = wb m c k (un t.val f) := by
  refine Eq.trans (congrArg (V m c (Pipeline.arrRef spec0 3)) (?_ : _ = ix2 k (un t.val f))) (congrFun (V_v2 m c) _)
  funext a
  have hi := (index_halves t).2.1
  match a with
  | ⟨0, _⟩ => exact Fin.ext (by show win0_3.index t 0 * 1024 + 1 * k.val = k.val; rw [hi]; simp)
  | ⟨1, _⟩ => exact Fin.ext (by show win0_3.index t 1 * 1408 + 1 * f.val = 1408 * (t.val % 2) + f.val; rw [hi]; simp; omega)

/-- The block of window 4: the point's half of the hidden units. -/
theorem blk4 (t : Fin 256) (f : Fin 1408) (d : Fin 1024) : iblk m c 4 t (ix2 f d) = wc m c (un t.val f) d := by
  refine Eq.trans (congrArg (V m c (Pipeline.arrRef spec0 4)) (?_ : _ = ix2 (un t.val f) d)) (congrFun (V_v3 m c) _)
  funext a
  have hi := (index_halves t).2.2
  match a with
  | ⟨0, _⟩ => exact Fin.ext (by show win0_4.index t 0 * 1408 + 1 * f.val = 1408 * (t.val % 2) + f.val; rw [hi]; simp; omega)
  | ⟨1, _⟩ => exact Fin.ext (by show win0_4.index t 1 * 1024 + 1 * d.val = d.val; rw [hi]; simp)

/-- The normalised row of a token. -/
def nrow (t : Fin 65536) : Fin 1024 → EReal := Layer.unit (tok m c t) (gain m c)

/-- What half of the hidden units adds to one entry. -/
def half (t : Fin 65536) (d : Fin 1024) (n : ℕ) : EReal :=
  Layer.mlp (nrow m c t) (fun k f => wa m c k (un n f)) (fun k f => wb m c k (un n f)) (fun f k => wc m c (un n f) k) d

/-- The two halves make the whole layer. -/
theorem halves (t : Fin 65536) (d : Fin 1024) :
    half m c t d 0 + half m c t d 1 = Layer.mlp (nrow m c t) (wa m c) (wb m c) (wc m c) d := by
  have h := Fin.sum_univ_add (a := 1408) (b := 1408) fun f : Fin 2816 => Layer.hidden (nrow m c t) (wa m c) (wb m c) f * wc m c f d
  unfold half Layer.mlp
  refine Eq.trans (congrArg₂ (· + ·) (Finset.sum_congr rfl fun f _ => ?_) (Finset.sum_congr rfl fun f _ => ?_)) h.symm
  · have e : un 0 f = Fin.castAdd 1408 f := Fin.ext (by show 1408 * (0 % 2) + f.val = f.val; omega)
    rw [← e]
    rfl
  · have e : un 1 f = Fin.natAdd 1408 f := Fin.ext (by show 1408 * (1 % 2) + f.val = 1408 + f.val; omega)
    rw [← e]
    rfl

/-- The token of a row of a block. -/
def tk (i : Fin 128) (r : Fin 512) : Fin 65536 := ⟨512 * i.val + r.val, by omega⟩

/-- A point's addition, from the scratch rows. -/
theorem step (i : Fin 128) (n : ℕ) (hn : n < 2) (t : Fin 256) (ht : t.val = 2 * i.val + n)
    (O : Vec Ideal S512x1024 .f32) (X : Vec Ideal S512x1024 .bf16) (r : Fin 512) (d : Fin 1024)
    (hX : ∀ k, X (ix2 r k) = nrow m c (tk i r) k) :
    k0_pay2 O X (iblk m c 2 t) (iblk m c 3 t) (iblk m c 4 t) (ix2 r d) = (O (ix2 r d) : EReal) + half m c (tk i r) d n := by
  have hU : ∀ f, un t.val f = un n f := fun f => Fin.ext (by show 1408 * (t.val % 2) + f.val = 1408 * (n % 2) + f.val; omega)
  refine (pay2_apply O X _ _ _ r d).trans ?_
  refine congrArg ((O (ix2 r d) : EReal) + ·) ?_
  unfold half
  simp only [blk2, blk3, blk4, hX, hU]

/-- After the first point of a block: the input rows and the first half, and the normalised rows. -/
theorem first (i : Fin 128) (h : 2 * i.val < cfg0.N) (r : Fin 512) :
    (∀ d, (outsAt0 m c (2 * i.val) h).1 (ix2 r d) = tok m c (tk i r) d + half m c (tk i r) d 0)
      ∧ ∀ d, (outsAt0 m c (2 * i.val) h).2 (ix2 r d) = nrow m c (tk i r) d := by
  have hb : 2 * i.val < 256 := by omega
  have htk : ∀ q, (⟨512 * ((⟨2 * i.val, hb⟩ : Fin 256).val / 2) + r.val, q⟩ : Fin 65536) = tk i r := fun q =>
    Fin.ext (by show 512 * (2 * i.val / 2) + r.val = 512 * i.val + r.val; omega)
  have b0 : ∀ d, iblk m c 0 (⟨2 * i.val, hb⟩ : Fin 256) (ix2 r d) = tok m c (tk i r) d := fun d =>
    (blk0 m c ⟨2 * i.val, hb⟩ r d).trans (by rw [htk])
  have b1 := blk1 m c ⟨2 * i.val, hb⟩
  have hX : ∀ d, k0_pay1 (iblk m c 0 (⟨2 * i.val, hb⟩ : Fin 256)) (iblk m c 1 (⟨2 * i.val, hb⟩ : Fin 256)) (ix2 r d) = nrow m c (tk i r) d := fun d => by
    refine (pay1_apply _ _ r d).trans ?_
    unfold nrow
    simp only [b0, b1]
  rw [outs_A m c ⟨2 * i.val, h⟩ (by show (2 * i.val) % 2 = 0; omega) (by show ¬(2 * i.val) % 2 = 1; omega)]
  refine ⟨fun d => ?_, hX⟩
  refine (step m c i 0 (by omega) ⟨2 * i.val, hb⟩ rfl _ _ r d hX).trans ?_
  exact congrArg (· + _) (b0 d)

/-- After the second point of a block: the gated addition of the rows and the whole layer. -/
theorem second (i : Fin 128) (h : 2 * i.val + 1 < cfg0.N) (r : Fin 512) (d : Fin 1024) :
    (outsAt0 m c (2 * i.val + 1) h).1 (ix2 r d)
      = Layer.row (tok m c (tk i r)) (gain m c) (wa m c) (wb m c) (wc m c) (side m c (tk i r)) (gateW m c) (sideW m c) d := by
  have hb : 2 * i.val + 1 < 256 := by omega
  have hp : 2 * i.val < cfg0.N := Nat.lt_of_succ_lt h
  obtain ⟨hO, hX⟩ := first m c i hp r
  rw [outs_B m c ⟨2 * i.val + 1, h⟩ (by show ¬(2 * i.val + 1) % 2 = 0; omega) (by show (2 * i.val + 1) % 2 = 1; omega)
      (outsAt0 m c (2 * i.val) hp) rfl]
  refine (pay3_apply _ _ _ _ r d).trans ?_
  have htk : ∀ q, (⟨512 * ((⟨2 * i.val + 1, hb⟩ : Fin 256).val / 2) + r.val, q⟩ : Fin 65536) = tk i r := fun q =>
      Fin.ext (by show 512 * ((2 * i.val + 1) / 2) + r.val = 512 * i.val + r.val; omega)
  have b5 : ∀ d, iblk m c 5 (⟨2 * i.val + 1, hb⟩ : Fin 256) (ix2 r d) = side m c (tk i r) d := fun d =>
    (blk5 m c ⟨2 * i.val + 1, hb⟩ r d).trans (by rw [htk])
  have b6 := blk6 m c ⟨2 * i.val + 1, hb⟩
  have b7 := blk7 m c ⟨2 * i.val + 1, hb⟩
  have hs : ∀ d, k0_pay2 (outsAt0 m c (2 * i.val) hp).1 (outsAt0 m c (2 * i.val) hp).2 (iblk m c 2 (⟨2 * i.val + 1, hb⟩ : Fin 256))
      (iblk m c 3 (⟨2 * i.val + 1, hb⟩ : Fin 256)) (iblk m c 4 (⟨2 * i.val + 1, hb⟩ : Fin 256)) (ix2 r d)
        = tok m c (tk i r) d + Layer.mlp (nrow m c (tk i r)) (wa m c) (wb m c) (wc m c) d := fun d => by
    refine (step m c i 1 (by omega) ⟨2 * i.val + 1, hb⟩ rfl _ _ r d hX).trans ?_
    rw [hO, add_assoc, halves]
  unfold Layer.row
  congr 1
  · funext d; exact hs d
  · funext k d; exact b6 k d
  · funext d; exact b5 d
  · funext k d; exact b7 k d

/-- The kernel's result at a token and a channel is the feed-forward block of the token's row. -/
theorem result (t : Fin 65536) (d : Fin 1024) :
    Value.G8 m c (ix2 t d)
      = Layer.row (tok m c t) (gain m c) (wa m c) (wb m c) (wc m c) (side m c t) (gateW m c) (sideW m c) d := by
  have hi : t.val / 512 < 128 := by omega
  have hrr : t.val % 512 < 512 := Nat.mod_lt _ (by decide)
  have hpt : Value.pt8Of (ix2 t d) = 2 * (t.val / 512) + 1 := by
    show 2 * (1 * (t.val / 512 - 0) + 1 * (d.val / 1024 - 0)) + 1 = _
    omega
  have hlc : Value.loc8Of (ix2 t d) = ix2 (⟨t.val % 512, hrr⟩ : Fin 512) d := by
    funext a
    match a with
    | ⟨0, _⟩ => exact Fin.ext (by show t.val % 512 = t.val % 512; rfl)
    | ⟨1, _⟩ => exact Fin.ext (by show d.val % 1024 = d.val; omega)
  have hN : 2 * (t.val / 512) + 1 < cfg0.N := lt_of_lt_of_eq (by omega : _ < 256) N_0.symm
  have htk : tk ⟨t.val / 512, hi⟩ ⟨t.val % 512, hrr⟩ = t := Fin.ext (by show 512 * (t.val / 512) + t.val % 512 = t.val; omega)
  unfold Value.G8
  have hp : Value.pt8Of (ix2 t d) < cfg0.N := by rw [hpt]; exact hN
  rw [dif_pos hp, ← Value.outsAt0_sweep m c _ hp, hlc]
  have e : ∀ (n : ℕ) (h : n < cfg0.N), n = 2 * (t.val / 512) + 1 →
      (outsAt0 m c n h).1 (ix2 (⟨t.val % 512, hrr⟩ : Fin 512) d) = (outsAt0 m c (2 * (t.val / 512) + 1) hN).1 (ix2 (⟨t.val % 512, hrr⟩ : Fin 512) d) := by
    rintro n h rfl
    rfl
  refine (e _ hp hpt).trans ((second m c ⟨t.val / 512, hi⟩ hN ⟨t.val % 512, hrr⟩ d).trans ?_)
  rw [htk]

end Cert.Kernel2Ideal.Body

end
-- ==== Proof.Ffn.Host.lean ====
/-
  The feed-forward reference's result, entry by entry: the feed-forward block of the same row of its arguments.
-/
module

public import proofs.«01_k».proof.Proof.Layer.Plain
public import proofs.«01_k».proof.Proof.Gen.Reference2Ideal.Run

@[expose] public section

set_option maxRecDepth 16384

noncomputable section

namespace Cert.Reference2Ideal.Body

open Cert.Reference2Ideal Cert.Reference2Ideal.Gen Cert.Reference2Ideal.Value Idealize.ShloMosaic Idealize.ShloMosaic.TcCoe

/-- The normalised tokens, as an array. -/
def normed (h : FVec Ideal S65536x1024 .f32) (g : FVec Ideal S1024 .f32) : FVec Ideal S65536x1024 .f32 :=
  mulf (mulf h (broadcastInDim S65536x1024 ![0, 1] bcast_S65536x1_S65536x1024_0_1 (Host.rsqrt (addf (Host.divf (broadcastInDim S65536x1 ![0] bcast_S65536_S65536x1_0 (Host.reduceAdd (mulf h h) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

/-- A product of the tokens with a weight of the hidden units. -/
def prod (x : FVec Ideal S65536x1024 .f32) (w : FVec Ideal S1024x2816 .f32) : FVec Ideal S65536x2816 .f32 :=
  Host.dotGeneral dot_S65536x1024_S1024x2816_S65536x2816_1_0_0_1_n_n none x w

/-- An array through its own gate. -/
def silu (a : FVec Ideal S65536x2816 .f32) : FVec Ideal S65536x2816 .f32 :=
  mulf a (Host.divf (broadcastInDim S65536x2816 ![] bcast_S_S65536x2816 (constant S_ .f32 0x3F800000#32)) (addf (broadcastInDim S65536x2816 ![] bcast_S_S65536x2816 (constant S_ .f32 0x3F800000#32)) (Host.exp (Host.negf a))))

/-- The tokens plus the gated layer's output. -/
def added (h x : FVec Ideal S65536x1024 .f32) (w1 w3 : FVec Ideal S1024x2816 .f32) (w2 : FVec Ideal S2816x1024 .f32) : FVec Ideal S65536x1024 .f32 :=
  addf h (Host.dotGeneral dot_S65536x2816_S2816x1024_S65536x1024_1_0_0_1_n_n none (mulf (silu (prod x w1)) (prod x w3)) w2)

/-- The gated addition. -/
def gatedA (o : FVec Ideal S65536x1024 .f32) (wg : FVec Ideal S1024x1024 .f32) (p : FVec Ideal S65536x256 .f32)
    (wp : FVec Ideal S256x1024 .f32) : FVec Ideal S65536x1024 .f32 :=
  addf o (mulf (Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none o wg))))) (Host.dotGeneral dot_S65536x256_S256x1024_S65536x1024_1_0_0_1_n_n none p wp))

theorem normed_apply (h : FVec Ideal S65536x1024 .f32) (g : FVec Ideal S1024 .f32) (R : Fin 65536) (d : Fin 1024) :
    normed h g (ix2 R d) = Layer.unit (fun k => h (ix2 R k)) (fun k => g (ix1 k)) d := by
  unfold normed Layer.unit
  pointwise

theorem prod_apply (x : FVec Ideal S65536x1024 .f32) (w : FVec Ideal S1024x2816 .f32) (R : Fin 65536) (f : Fin 2816) :
    (prod x w (ix2 R f) : EReal) = ∑ k : Fin 1024, (x (ix2 R k) : EReal) * w (ix2 k f) := by
  unfold prod
  pointwise

theorem silu_apply (a : FVec Ideal S65536x2816 .f32) (R : Fin 65536) (f : Fin 2816) :
    (silu a (ix2 R f) : EReal) = a (ix2 R f) * Ideal.logistic (a (ix2 R f)) := by
  unfold silu Ideal.logistic
  pointwise

theorem added_apply (h x : FVec Ideal S65536x1024 .f32) (w1 w3 : FVec Ideal S1024x2816 .f32) (w2 : FVec Ideal S2816x1024 .f32)
    (R : Fin 65536) (d : Fin 1024) :
    added h x w1 w3 w2 (ix2 R d)
      = (h (ix2 R d) : EReal) + Layer.mlp (fun k => x (ix2 R k)) (fun k f => w1 (ix2 k f)) (fun k f => w3 (ix2 k f)) (fun f k => w2 (ix2 f k)) d := by
  unfold added Layer.mlp Layer.hidden
  simp only [← prod_apply, ← silu_apply]
  generalize silu (prod x w1) = A
  generalize prod x w3 = B
  pointwise

theorem gatedA_apply (o : FVec Ideal S65536x1024 .f32) (wg : FVec Ideal S1024x1024 .f32) (p : FVec Ideal S65536x256 .f32)
    (wp : FVec Ideal S256x1024 .f32) (R : Fin 65536) (d : Fin 1024) :
    gatedA o wg p wp (ix2 R d)
      = Layer.gated (fun k => o (ix2 R k)) (fun k d => wg (ix2 k d)) (fun k => p (ix2 R k)) (fun k d => wp (ix2 k d)) d := by
  unfold gatedA Layer.gated Ideal.logistic
  pointwise

variable (m : (ℓ : Loc nD τ sig) → Buf (Elt Ideal) ℓ) (c : Dev nD)

/-- The reference's result is made of these parts. -/
theorem result_eq : (res_main_v28 m c : FVec Ideal S65536x1024 .f32)
      = gatedA (added (m ((c.tc : Thread nD τ).loc main_arg0)) (normed (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)))
          (m ((c.tc : Thread nD τ).loc main_arg6)) (m ((c.tc : Thread nD τ).loc main_arg5)) (m ((c.tc : Thread nD τ).loc main_arg7)) := by
  unfold res_main_v28 gatedA added silu prod normed
  rfl

/-- The whole result, at a row and a column: the feed-forward block of that row. -/
theorem result_apply (x0 : FVec Ideal S65536x1024 .f32) (x1 : FVec Ideal S1024 .f32) (x2 x3 : FVec Ideal S1024x2816 .f32)
    (x4 : FVec Ideal S2816x1024 .f32) (x5 : FVec Ideal S65536x256 .f32) (x6 : FVec Ideal S1024x1024 .f32) (x7 : FVec Ideal S256x1024 .f32)
    (R : Fin 65536) (d : Fin 1024) :
    gatedA (added x0 (normed x0 x1) x2 x3 x4) x6 x5 x7 (ix2 R d)
      = Layer.row (fun k => x0 (ix2 R k)) (fun k => x1 (ix1 k)) (fun k f => x2 (ix2 k f)) (fun k f => x3 (ix2 k f))
          (fun f k => x4 (ix2 f k)) (fun k => x5 (ix2 R k)) (fun k f => x6 (ix2 k f)) (fun k f => x7 (ix2 k f)) d := by
  refine (gatedA_apply _ _ _ _ R d).trans ?_
  unfold Layer.row
  simp only [added_apply, normed_apply]

end Cert.Reference2Ideal.Body

end
-- ==== Proof.Ffn.Claims.lean ====
/-
  The feed-forward call's claims: the reference's frame, and the equality of the two results.
-/
module

public import proofs.«01_k».proof.Defs
public import proofs.«01_k».proof.Proof.Ffn.Array
public import proofs.«01_k».proof.Proof.Ffn.Host
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The feed-forward reference runs to its end and leaves its arguments as they were. -/
theorem ffn_host_frame : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- From equal arguments the feed-forward kernel and its reference end with equal results. -/
theorem ffn_algebraic : Cert.algebraic_Kernel2Ideal_Reference2Ideal (hKernel2Ideal := Cert.Kernel2Ideal.Gen.facts)
    (hReference2Ideal := Cert.Reference2Ideal.Gen.facts) := by
  intro m ρ m' ρ' _ hm
  refine ⟨fun c => Cert.Kernel2Ideal.Value.G8 m c, Cert.Kernel2Ideal.Value.run m ρ,
    (θ_run _ _ _).mono (fun r h c => ⟨(h c).1.trans ?_, (h c).2⟩) (Cert.Reference2Ideal.Value.run m' ρ')⟩
  obtain ⟨h0, h1, h2, h3, h4, h5, h6, h7⟩ := hm c
  refine (Cert.Reference2Ideal.Body.result_eq m' c).trans ?_
  rw [h0, h1, h2, h3, h4, h5, h6, h7]
  funext i
  obtain ⟨R, d, rfl⟩ : ∃ (R : Fin 65536) (d : Fin 1024), i = ix2 R d := ⟨i 0, i 1, ValueIdx.eq_ix2 i⟩
  exact (Cert.Reference2Ideal.Body.result_apply _ _ _ _ _ _ _ _ R d).trans (Cert.Kernel2Ideal.Body.result m c R d).symm

end Cert.Proof

end
-- ==== Proof.Moe.Index.lean ====
module
public import proofs.«01_k».proof.Proof.Moe.Block
@[expose] public section
set_option maxRecDepth 16384
noncomputable section
namespace Cert.Kernel3Ideal.Body
open Cert.Kernel3Ideal Cert.Kernel3Ideal.Gen Idealize.ShloMosaic Idealize.ShloMosaic.TcCoe
/-- The blocks of rows, of the token rows and of the gate's rows, at each grid point. -/
theorem index_rows : ∀ t : Fin cfg0.N, win0_0.index t = ![t.val / 32, 0] ∧ win0_6.index t = ![t.val / 32, 0] :=
  (by decide +kernel : ∀ t : Fin grid0.N, win0_0.index t = ![t.val / 32, 0] ∧ win0_6.index t = ![t.val / 32, 0])
/-- The blocks of the experts' weights at each grid point, and the point's expert. -/
theorem index_experts : ∀ t : Fin cfg0.N, win0_3.index t = ![t.val / 4 % 8, 0, t.val % 4] ∧ win0_4.index t = ![t.val / 4 % 8, 0, t.val % 4]
      ∧ win0_5.index t = ![t.val / 4 % 8, t.val % 4, 0] ∧ (grid0.coords t 1).val = t.val / 4 % 8 :=
  (by decide +kernel : ∀ t : Fin grid0.N, win0_3.index t = ![t.val / 4 % 8, 0, t.val % 4] ∧ win0_4.index t = ![t.val / 4 % 8, 0, t.val % 4]
      ∧ win0_5.index t = ![t.val / 4 % 8, t.val % 4, 0] ∧ (grid0.coords t 1).val = t.val / 4 % 8)
/-- The small arrays are read whole at every grid point. -/
theorem index_whole : ∀ t : Fin cfg0.N, win0_1.index t = ![0, 0] ∧ win0_2.index t = ![0, 0] ∧ win0_7.index t = ![0, 0] ∧ win0_8.index t = ![0, 0] :=
  (by decide +kernel : ∀ t : Fin grid0.N, win0_1.index t = ![0, 0] ∧ win0_2.index t = ![0, 0] ∧ win0_7.index t = ![0, 0] ∧ win0_8.index t = ![0, 0])
end Cert.Kernel3Ideal.Body
end
-- ==== Proof.Moe.Array.lean ====
/-
  The expert kernel's output array after its run, entry by entry: the 32 grid points of a block of 512 tokens add, expert by
  expert and hidden group by hidden group, the expert parts to the token rows; the last makes the gated addition.
-/
module

public import proofs.«01_k».proof.Proof.Moe.Block
public import proofs.«01_k».proof.Proof.Moe.Index
public import proofs.«01_k».proof.Proof.Gen.Kernel3Ideal.Value

@[expose] public section

set_option maxRecDepth 16384

noncomputable section

namespace Cert.Kernel3Ideal.Body

open Cert.Kernel3Ideal Cert.Kernel3Ideal.Gen Idealize.ShloMosaic Idealize.ShloMosaic.TcCoe

variable (m : (ℓ : Loc nD τ sig) → Buf (Elt Ideal) ℓ) (c : Dev nD)

/-! The arguments' rows and matrices. -/

def tok (t : Fin 65536) (d : Fin 1024) : EReal := m ((c : Thread nD τ).loc main_arg0) (ix2 t d)
def gain (d : Fin 1024) : EReal := m ((c : Thread nD τ).loc main_arg1) (ix1 d)
def router (k : Fin 1024) (e : Fin 8) : EReal := m ((c : Thread nD τ).loc main_arg2) (ix2 k e)
def wa (e : Fin 8) (k : Fin 1024) (f : Fin 3584) : EReal := m ((c : Thread nD τ).loc main_arg3) (ix3 e k f)
def wb (e : Fin 8) (k : Fin 1024) (f : Fin 3584) : EReal := m ((c : Thread nD τ).loc main_arg4) (ix3 e k f)
def wc (e : Fin 8) (f : Fin 3584) (d : Fin 1024) : EReal := m ((c : Thread nD τ).loc main_arg5) (ix3 e f d)
def side (t : Fin 65536) (d : Fin 256) : EReal := m ((c : Thread nD τ).loc main_arg6) (ix2 t d)
def gateW (k d : Fin 1024) : EReal := m ((c : Thread nD τ).loc main_arg7) (ix2 k d)
def sideW (k : Fin 256) (d : Fin 1024) : EReal := m ((c : Thread nD τ).loc main_arg8) (ix2 k d)

/-- The gain reaches the call as a matrix of one row. -/
theorem V_v0 : V m c main_v0 = (broadcastInDim S1x1024 ![1] bcast_S1024_S1x1024_1 (m ((c : Thread nD τ).loc main_arg1)) : FVec Ideal S1x1024 .f32) := by
  show StableHlo.after hostOps0 (fun b => m (c, b)) main_v0 = _
  after_results_simp

/-- Argument 3 reaches the call in the narrower format, which rounds nothing here. -/
theorem V_v1 : V m c main_v1 = (truncf .bf16 (m ((c : Thread nD τ).loc main_arg3)) bitsLt_bf16_f32 : FVec Ideal S8x1024x3584 .bf16) := by
  show StableHlo.after hostOps0 (fun b => m (c, b)) main_v1 = _
  after_results_simp

/-- Argument 4 reaches the call in the narrower format, which rounds nothing here. -/
theorem V_v2 : V m c main_v2 = (truncf .bf16 (m ((c : Thread nD τ).loc main_arg4)) bitsLt_bf16_f32 : FVec Ideal S8x1024x3584 .bf16) := by
  show StableHlo.after hostOps0 (fun b => m (c, b)) main_v2 = _
  after_results_simp

/-- Argument 5 reaches the call in the narrower format, which rounds nothing here. -/
theorem V_v3 : V m c main_v3 = (truncf .bf16 (m ((c : Thread nD τ).loc main_arg5)) bitsLt_bf16_f32 : FVec Ideal S8x3584x1024 .bf16) := by
  show StableHlo.after hostOps0 (fun b => m (c, b)) main_v3 = _
  after_results_simp

/-- Argument 7 reaches the call in the narrower format, which rounds nothing here. -/
theorem V_v4 : V m c main_v4 = (truncf .bf16 (m ((c : Thread nD τ).loc main_arg7)) bitsLt_bf16_f32 : FVec Ideal S1024x1024 .bf16) := by
  show StableHlo.after hostOps0 (fun b => m (c, b)) main_v4 = _
  after_results_simp

/-- Argument 8 reaches the call in the narrower format, which rounds nothing here. -/
theorem V_v5 : V m c main_v5 = (truncf .bf16 (m ((c : Thread nD τ).loc main_arg8)) bitsLt_bf16_f32 : FVec Ideal S256x1024 .bf16) := by
  show StableHlo.after hostOps0 (fun b => m (c, b)) main_v5 = _
  after_results_simp

/-- Rows of argument 0 that a grid point takes. -/
theorem blk0 (t : Fin 4096) (r : Fin 512) (d : Fin 1024) :
    iblk m c 0 t (ix2 r d) = tok m c (⟨512 * (t.val / 32) + r.val, by omega⟩ : Fin 65536) d := by
  refine Eq.trans (congrArg (V m c (Pipeline.arrRef spec0 0)) (?_ : _ = ix2 (⟨512 * (t.val / 32) + r.val, by omega⟩ : Fin 65536) d)) (congrFun (V_main_arg0 m c) _)
  funext a
  have hi := (index_rows t).1
  match a with
  | ⟨0, _⟩ => exact Fin.ext (by show win0_0.index t 0 * 512 + 1 * r.val = 512 * (t.val / 32) + r.val; rw [hi]; simp; omega)
  | ⟨1, _⟩ => exact Fin.ext (by show win0_0.index t 1 * 1024 + 1 * d.val = d.val; rw [hi]; simp)

/-- Rows of argument 6 that a grid point takes. -/
theorem blk6 (t : Fin 4096) (r : Fin 512) (d : Fin 256) :
    iblk m c 6 t (ix2 r d) = side m c (⟨512 * (t.val / 32) + r.val, by omega⟩ : Fin 65536) d := by
  refine Eq.trans (congrArg (V m c (Pipeline.arrRef spec0 6)) (?_ : _ = ix2 (⟨512 * (t.val / 32) + r.val, by omega⟩ : Fin 65536) d)) (congrFun (V_main_arg6 m c) _)
  funext a
  have hi := (index_rows t).2
  match a with
  | ⟨0, _⟩ => exact Fin.ext (by show win0_6.index t 0 * 512 + 1 * r.val = 512 * (t.val / 32) + r.val; rw [hi]; simp; omega)
  | ⟨1, _⟩ => exact Fin.ext (by show win0_6.index t 1 * 256 + 1 * d.val = d.val; rw [hi]; simp)

/-- The gain's block is the gain. -/
theorem blk1 (t : Fin 4096) (d : Fin 1024) : iblk m c 1 t (ix2 0 d) = gain m c d := by
  refine Eq.trans (congrArg (V m c (Pipeline.arrRef spec0 1)) (?_ : _ = ix2 (0 : Fin 1) d)) ((congrFun (V_v0 m c) _).trans ?_)
  · funext a
    have hi := (index_whole t).1
    match a with
    | ⟨0, _⟩ => exact Fin.ext (by show win0_1.index t 0 * 1 + 1 * 0 = 0; rw [hi]; simp)
    | ⟨1, _⟩ => exact Fin.ext (by show win0_1.index t 1 * 1024 + 1 * d.val = d.val; rw [hi]; simp)
  · unfold gain
    pointwise

/-- The block of window 2 is its whole array. -/
theorem blk2 (t : Fin 4096) (k : Fin 1024) (f : Fin 8) : iblk m c 2 t (ix2 k f) = router m c k f := by
  refine Eq.trans (congrArg (V m c (Pipeline.arrRef spec0 2)) (?_ : _ = ix2 k f)) (congrFun (V_main_arg2 m c) _)
  funext a
  have hi := (index_whole t).2.1
  match a with
  | ⟨0, _⟩ => exact Fin.ext (by show win0_2.index t 0 * 1024 + 1 * k.val = k.val; rw [hi]; simp)
  | ⟨1, _⟩ => exact Fin.ext (by show win0_2.index t 1 * 8 + 1 * f.val = f.val; rw [hi]; simp)

/-- The block of window 7 is its whole array. -/
theorem blk7 (t : Fin 4096) (k : Fin 1024) (f : Fin 1024) : iblk m c 7 t (ix2 k f) = gateW m c k f := by
  refine Eq.trans (congrArg (V m c (Pipeline.arrRef spec0 7)) (?_ : _ = ix2 k f)) (congrFun (V_v4 m c) _)
  funext a
  have hi := (index_whole t).2.2.1
  match a with
  | ⟨0, _⟩ => exact Fin.ext (by show win0_7.index t 0 * 1024 + 1 * k.val = k.val; rw [hi]; simp)
  | ⟨1, _⟩ => exact Fin.ext (by show win0_7.index t 1 * 1024 + 1 * f.val = f.val; rw [hi]; simp)

/-- The block of window 8 is its whole array. -/
theorem blk8 (t : Fin 4096) (k : Fin 256) (f : Fin 1024) : iblk m c 8 t (ix2 k f) = sideW m c k f := by
  refine Eq.trans (congrArg (V m c (Pipeline.arrRef spec0 8)) (?_ : _ = ix2 k f)) (congrFun (V_v5 m c) _)
  funext a
  have hi := (index_whole t).2.2.2
  match a with
  | ⟨0, _⟩ => exact Fin.ext (by show win0_8.index t 0 * 256 + 1 * k.val = k.val; rw [hi]; simp)
  | ⟨1, _⟩ => exact Fin.ext (by show win0_8.index t 1 * 1024 + 1 * f.val = f.val; rw [hi]; simp)

/-- The expert of a grid point. -/
def ex (n : ℕ) : Fin 8 := ⟨n / 4 % 8, Nat.mod_lt _ (by decide)⟩

/-- A hidden unit of a grid point's group. -/
def un (n : ℕ) (f : Fin 896) : Fin 3584 := ⟨896 * (n % 4) + f.val, by omega⟩

/-- The block of window 3: the point's expert, the point's group of hidden units. -/
theorem blk3 (t : Fin 4096) (k : Fin 1024) (f : Fin 896) : iblk m c 3 t (ix3 0 k f) = wa m c (ex t.val) k (un t.val f) := by
  refine Eq.trans (congrArg (V m c (Pipeline.arrRef spec0 3)) (?_ : _ = ix3 (ex t.val) k (un t.val f))) (congrFun (V_v1 m c) _)
  funext a
  have hi := (index_experts t).1
  match a with
  | ⟨0, _⟩ => exact Fin.ext (by show win0_3.index t 0 * 1 + 1 * 0 = t.val / 4 % 8; rw [hi]; simp)
  | ⟨1, _⟩ => exact Fin.ext (by show win0_3.index t 1 * 1024 + 1 * k.val = k.val; rw [hi]; simp)
  | ⟨2, _⟩ => exact Fin.ext (by show win0_3.index t 2 * 896 + 1 * f.val = 896 * (t.val % 4) + f.val; rw [hi]; simp; omega)

/-- The block of window 4: the point's expert, the point's group of hidden units. -/
theorem blk4 (t : Fin 4096) (k : Fin 1024) (f : Fin 896) : iblk m c 4 t (ix3 0 k f) = wb m c (ex t.val) k (un t.val f) := by
  refine Eq.trans (congrArg (V m c (Pipeline.arrRef spec0 4)) (?_ : _ = ix3 (ex t.val) k (un t.val f))) (congrFun (V_v2 m c) _)
  funext a
  have hi := (index_experts t).2.1
  match a with
  | ⟨0, _⟩ => exact Fin.ext (by show win0_4.index t 0 * 1 + 1 * 0 = t.val / 4 % 8; rw [hi]; simp)
  | ⟨1, _⟩ => exact Fin.ext (by show win0_4.index t 1 * 1024 + 1 * k.val = k.val; rw [hi]; simp)
  | ⟨2, _⟩ => exact Fin.ext (by show win0_4.index t 2 * 896 + 1 * f.val = 896 * (t.val % 4) + f.val; rw [hi]; simp; omega)

/-- The block of window 5: the point's expert, the point's group of hidden units. -/
theorem blk5 (t : Fin 4096) (f : Fin 896) (d : Fin 1024) : iblk m c 5 t (ix3 0 f d) = wc m c (ex t.val) (un t.val f) d := by
  refine Eq.trans (congrArg (V m c (Pipeline.arrRef spec0 5)) (?_ : _ = ix3 (ex t.val) (un t.val f) d)) (congrFun (V_v3 m c) _)
  funext a
  have hi := (index_experts t).2.2.1
  match a with
  | ⟨0, _⟩ => exact Fin.ext (by show win0_5.index t 0 * 1 + 1 * 0 = t.val / 4 % 8; rw [hi]; simp)
  | ⟨1, _⟩ => exact Fin.ext (by show win0_5.index t 1 * 896 + 1 * f.val = 896 * (t.val % 4) + f.val; rw [hi]; simp; omega)
  | ⟨2, _⟩ => exact Fin.ext (by show win0_5.index t 2 * 1024 + 1 * d.val = d.val; rw [hi]; simp)

/-! ## One token through its 32 points -/

/-- The normalised row of a token. -/
def nrow (t : Fin 65536) : Fin 1024 → EReal := Layer.unit (tok m c t) (gain m c)

/-- The logits of a token. -/
def lrow (t : Fin 65536) : Fin 8 → EReal := Layer.logits (nrow m c t) (router m c)

/-- The shares of a token. -/
def srow (t : Fin 65536) (e : Fin 8) : EReal := Layer.share (lrow m c t) (Layer.best (lrow m c t) 0) (Layer.best (lrow m c t) 1) e

/-- What one hidden unit of one expert adds to one entry. -/
def piece (t : Fin 65536) (d : Fin 1024) (e : Fin 8) (f : Fin 3584) : EReal :=
  Layer.hidden (nrow m c t) (wa m c e) (wb m c e) f * srow m c t e * wc m c e f d

/-- What the `n`-th point of the token's block adds. -/
def part (t : Fin 65536) (d : Fin 1024) (n : ℕ) : EReal := ∑ f : Fin 896, piece m c t d (ex n) (un n f)

/-- The token of a row of a block. -/
def tk (i : Fin 128) (r : Fin 512) : Fin 65536 := ⟨512 * i.val + r.val, by omega⟩

/-- The first `n + 1` points of a block leave these rows. -/
def sofar (i : Fin 128) (r : Fin 512) (d : Fin 1024) (n : ℕ) : EReal :=
  tok m c (tk i r) d + ∑ k ∈ Finset.range (n + 1), part m c (tk i r) d k

/-- A point's addition, from the scratch rows and shares. -/
theorem step (i : Fin 128) (n : ℕ) (hn : n < 32) (t : Fin 4096) (ht : t.val = 32 * i.val + n) (S : Vec Ideal S512x8 .f32)
    (O : Vec Ideal S512x1024 .f32) (X : Vec Ideal S512x1024 .bf16) (r : Fin 512) (d : Fin 1024)
    (hS : ∀ e, S (ix2 r e) = srow m c (tk i r) e) (hX : ∀ k, X (ix2 r k) = nrow m c (tk i r) k) :
    k0_pay11 (grid0.coords t) S O X (iblk m c 3 t) (iblk m c 4 t) (iblk m c 5 t) (ix2 r d)
      = (O (ix2 r d) : EReal) + part m c (tk i r) d n := by
  have hE : ex t.val = ex n := Fin.ext (by show t.val / 4 % 8 = n / 4 % 8; omega)
  have hU : ∀ f, un t.val f = un n f := fun f => Fin.ext (by show 896 * (t.val % 4) + f.val = 896 * (n % 4) + f.val; omega)
  refine (pay11_apply (grid0.coords t) (ex t.val) (index_experts t).2.2.2 S O X _ _ _ r d).trans ?_
  refine congrArg ((O (ix2 r d) : EReal) + ·) (Finset.sum_congr rfl fun f _ => ?_)
  unfold piece Layer.hidden
  simp only [blk3, blk4, blk5, hS, hX, hE, hU]

/-- After the points of a block before the last: the sum so far, the normalised rows, the shares. -/
theorem upto (hr : ∀ t e, Layer.Real' (lrow m c t e)) (i : Fin 128) (n : ℕ) (hn : n < 31) :
    ∀ (h : 32 * i.val + n < cfg0.N) (r : Fin 512),
      (∀ d, (outsAt0 m c (32 * i.val + n) h).1 (ix2 r d) = sofar m c i r d n)
      ∧ (∀ d, (outsAt0 m c (32 * i.val + n) h).2.1 (ix2 r d) = nrow m c (tk i r) d)
      ∧ ∀ e, (outsAt0 m c (32 * i.val + n) h).2.2 (ix2 r e) = srow m c (tk i r) e := by
  induction n with
  | zero =>
    intro h r
    have hb : 32 * i.val + 0 < 4096 := by omega
    have htk : ∀ q, (⟨512 * ((⟨32 * i.val + 0, hb⟩ : Fin 4096).val / 32) + r.val, q⟩ : Fin 65536) = tk i r := fun q =>
      Fin.ext (by show 512 * ((32 * i.val + 0) / 32) + r.val = 512 * i.val + r.val; omega)
    have b0 : ∀ d, iblk m c 0 (⟨32 * i.val + 0, hb⟩ : Fin 4096) (ix2 r d) = tok m c (tk i r) d := fun d =>
      (blk0 m c ⟨32 * i.val + 0, hb⟩ r d).trans (by rw [htk])
    have b1 := blk1 m c ⟨32 * i.val + 0, hb⟩
    have b2 := blk2 m c ⟨32 * i.val + 0, hb⟩
    have hL : lg (iblk m c 0 (⟨32 * i.val + 0, hb⟩ : Fin 4096)) (iblk m c 1 (⟨32 * i.val + 0, hb⟩ : Fin 4096))
        (iblk m c 2 (⟨32 * i.val + 0, hb⟩ : Fin 4096)) r = lrow m c (tk i r) := by
      unfold lg lrow nrow
      simp only [b0, b1, b2]
    have hX : ∀ d, k0_pay3 (iblk m c 0 (⟨32 * i.val + 0, hb⟩ : Fin 4096)) (iblk m c 1 (⟨32 * i.val + 0, hb⟩ : Fin 4096)) (ix2 r d) = nrow m c (tk i r) d := fun d => by
      refine (pay3_apply _ _ r d).trans ?_
      unfold nrow
      simp only [b0, b1]
    have hS : ∀ e, shares (iblk m c 0 (⟨32 * i.val + 0, hb⟩ : Fin 4096)) (iblk m c 1 (⟨32 * i.val + 0, hb⟩ : Fin 4096))
        (iblk m c 2 (⟨32 * i.val + 0, hb⟩ : Fin 4096)) (ix2 r e) = srow m c (tk i r) e := fun e => by
      refine (shares_apply _ _ _ r (i := Layer.best (lrow m c (tk i r)) 0) (j := Layer.best (lrow m c (tk i r)) 1) ?_ ?_ e).trans ?_
      · rw [hL]; exact Layer.best_top2 _
      · rw [hL]; exact hr _
      · rw [hL]; rfl
    rw [outs_A m c ⟨32 * i.val + 0, h⟩ (by show (32 * i.val + 0) % 32 = 0; omega) (by show ¬(32 * i.val + 0) % 32 = 31; omega)]
    refine ⟨fun d => ?_, hX, hS⟩
    refine (step m c i 0 (by omega) ⟨32 * i.val + 0, hb⟩ rfl _ _ _ r d hS hX).trans ?_
    unfold sofar
    rw [Finset.sum_range_one]
    exact congrArg (· + _) (b0 d)
  | succ n ih =>
    intro h r
    have hb : 32 * i.val + (n + 1) < 4096 := by omega
    have hp : 32 * i.val + n < cfg0.N := Nat.lt_of_succ_lt h
    obtain ⟨hO, hX, hS⟩ := ih (by omega) hp r
    rw [outs_B m c ⟨32 * i.val + (n + 1), h⟩ (by show ¬(32 * i.val + (n + 1)) % 32 = 0; omega) (by show ¬(32 * i.val + (n + 1)) % 32 = 31; omega)
      (outsAt0 m c (32 * i.val + n) hp) rfl]
    refine ⟨fun d => ?_, hX, hS⟩
    refine (step m c i (n + 1) (by omega) ⟨32 * i.val + (n + 1), hb⟩ rfl _ _ _ r d hS hX).trans ?_
    rw [hO]
    unfold sofar
    rw [Finset.sum_range_succ _ (n + 1), add_assoc]

/-- After the last point of a block: the gated addition of the whole sum. -/
theorem last (hr : ∀ t e, Layer.Real' (lrow m c t e)) (i : Fin 128) (h : 32 * i.val + 31 < cfg0.N) (r : Fin 512) (d : Fin 1024) :
    (outsAt0 m c (32 * i.val + 31) h).1 (ix2 r d)
      = Layer.gated (fun d => sofar m c i r d 31) (gateW m c) (side m c (tk i r)) (sideW m c) d := by
  have hb : 32 * i.val + 31 < 4096 := by omega
  have hp : 32 * i.val + 30 < cfg0.N := Nat.lt_of_succ_lt h
  obtain ⟨hO, hX, hS⟩ := upto m c hr i 30 (by omega) hp r
  rw [outs_C m c ⟨32 * i.val + 31, h⟩ (by show ¬(32 * i.val + 31) % 32 = 0; omega) (by show (32 * i.val + 31) % 32 = 31; omega)
      (outsAt0 m c (32 * i.val + 30) hp) rfl]
  refine (pay1_apply _ _ _ _ r d).trans ?_
  have htk : ∀ q, (⟨512 * ((⟨32 * i.val + 31, hb⟩ : Fin 4096).val / 32) + r.val, q⟩ : Fin 65536) = tk i r := fun q =>
      Fin.ext (by show 512 * ((32 * i.val + 31) / 32) + r.val = 512 * i.val + r.val; omega)
  have b6 : ∀ d, iblk m c 6 (⟨32 * i.val + 31, hb⟩ : Fin 4096) (ix2 r d) = side m c (tk i r) d := fun d =>
    (blk6 m c ⟨32 * i.val + 31, hb⟩ r d).trans (by rw [htk])
  have b7 := blk7 m c ⟨32 * i.val + 31, hb⟩
  have b8 := blk8 m c ⟨32 * i.val + 31, hb⟩
  have hs : ∀ d, k0_pay11 (grid0.coords (⟨32 * i.val + 31, hb⟩ : Fin 4096)) (outsAt0 m c (32 * i.val + 30) hp).2.2 (outsAt0 m c (32 * i.val + 30) hp).1
      (outsAt0 m c (32 * i.val + 30) hp).2.1 (iblk m c 3 (⟨32 * i.val + 31, hb⟩ : Fin 4096)) (iblk m c 4 (⟨32 * i.val + 31, hb⟩ : Fin 4096))
      (iblk m c 5 (⟨32 * i.val + 31, hb⟩ : Fin 4096)) (ix2 r d) = sofar m c i r d 31 := fun d => by
    refine (step m c i 31 (by omega) ⟨32 * i.val + 31, hb⟩ rfl _ _ _ r d hS hX).trans ?_
    rw [hO]
    unfold sofar
    rw [Finset.sum_range_succ _ 31, add_assoc]
  congr 1
  · funext d; exact hs d
  · funext k d; exact b7 k d
  · funext d; exact b6 d
  · funext k d; exact b8 k d

/-- The sum of a block's 32 parts is the sum over the experts of share times layer. -/
theorem parts (hr : ∀ t e, Layer.Real' (lrow m c t e)) (t : Fin 65536) (d : Fin 1024) :
    ∑ k ∈ Finset.range 32, part m c t d k
      = ∑ e, srow m c t e * Layer.mlp (nrow m c t) (wa m c e) (wb m c e) (wc m c e) d := by
  refine (Layer.groups (piece m c t d)).trans (Finset.sum_congr rfl fun e _ => ?_)
  obtain ⟨h0, h1⟩ := Layer.share_real (hr t) (Layer.best (lrow m c t) 0) (Layer.best (lrow m c t) 1) e
  exact Layer.share_mlp h0 h1 _ _

/-- The kernel's result at a token and a channel is the expert block of the token's row. -/
theorem result (hr : ∀ t e, Layer.Real' (lrow m c t e)) (t : Fin 65536) (d : Fin 1024) :
    Value.G9 m c (ix2 t d)
      = Layer.experts (tok m c t) (gain m c) (router m c) (wa m c) (wb m c) (wc m c) (side m c t) (gateW m c) (sideW m c) d := by
  have hi : t.val / 512 < 128 := by omega
  have hrr : t.val % 512 < 512 := Nat.mod_lt _ (by decide)
  have hpt : Value.pt9Of (ix2 t d) = 32 * (t.val / 512) + 31 := by
    show 32 * (1 * (t.val / 512 - 0) + 1 * (d.val / 1024 - 0)) + 31 = _
    omega
  have hlc : Value.loc9Of (ix2 t d) = ix2 (⟨t.val % 512, hrr⟩ : Fin 512) d := by
    funext a
    match a with
    | ⟨0, _⟩ => exact Fin.ext (by show t.val % 512 = t.val % 512; rfl)
    | ⟨1, _⟩ => exact Fin.ext (by show d.val % 1024 = d.val; omega)
  have hN : 32 * (t.val / 512) + 31 < cfg0.N := lt_of_lt_of_eq (by omega : _ < 4096) N_0.symm
  have htk : tk ⟨t.val / 512, hi⟩ ⟨t.val % 512, hrr⟩ = t := Fin.ext (by show 512 * (t.val / 512) + t.val % 512 = t.val; omega)
  unfold Value.G9
  have hp : Value.pt9Of (ix2 t d) < cfg0.N := by rw [hpt]; exact hN
  rw [dif_pos hp, ← Value.outsAt0_sweep m c _ hp, hlc]
  have e : ∀ (n : ℕ) (h : n < cfg0.N), n = 32 * (t.val / 512) + 31 →
      (outsAt0 m c n h).1 (ix2 (⟨t.val % 512, hrr⟩ : Fin 512) d) = (outsAt0 m c (32 * (t.val / 512) + 31) hN).1 (ix2 (⟨t.val % 512, hrr⟩ : Fin 512) d) := by
    rintro n h rfl
    rfl
  refine (e _ hp hpt).trans ((last m c hr ⟨t.val / 512, hi⟩ hN ⟨t.val % 512, hrr⟩ d).trans ?_)
  unfold sofar Layer.experts
  rw [htk]
  congr 1
  funext d
  rw [parts m c hr t d]
  rfl

end Cert.Kernel3Ideal.Body

end
-- ==== Proof.Moe.Host.lean ====
/-
  The expert reference's result, entry by entry: the expert block of the same row of its arguments.
-/
module

public import proofs.«01_k».proof.Proof.Layer.Plain
public import proofs.«01_k».proof.Proof.Gen.Reference3Ideal.Run

@[expose] public section

set_option maxRecDepth 16384

noncomputable section

namespace Cert.Reference3Ideal.Body

open Cert.Reference3Ideal Cert.Reference3Ideal.Gen Cert.Reference3Ideal.Value Idealize.ShloMosaic Idealize.ShloMosaic.TcCoe

variable (V0 : Valuation τ sig (Elt Ideal))

/-- The token row and the normalised row. -/
def hrow (R : Fin 65536) (k : Fin 1024) : EReal := (V0 (Proc.devRef .tc main_arg0) : FVec Ideal S65536x1024 .f32) (ix2 R k)
def gn (k : Fin 1024) : EReal := (V0 (Proc.devRef .tc main_arg1) : FVec Ideal S1024 .f32) (ix1 k)
def nrow (R : Fin 65536) : Fin 1024 → EReal := Layer.unit (hrow V0 R) (gn V0)

/-- The normalised tokens. -/
theorem v12_apply (R : Fin 65536) (d : Fin 1024) : (res_main_v12 V0 : FVec Ideal S65536x1024 .f32) (ix2 R d) = nrow V0 R d := by
  unfold res_main_v12 nrow Layer.unit hrow gn
  generalize (V0 (Proc.devRef .tc main_arg0) : FVec Ideal S65536x1024 .f32) = X
  generalize (V0 (Proc.devRef .tc main_arg1) : FVec Ideal S1024 .f32) = G
  pointwise

/-- The router's logits of a token. -/
def lrow (R : Fin 65536) : Fin 8 → EReal :=
  Layer.logits (nrow V0 R) fun k e => (V0 (Proc.devRef .tc main_arg2) : FVec Ideal S1024x8 .f32) (ix2 k e)

theorem v13_apply (R : Fin 65536) (e : Fin 8) : (res_main_v13 V0 : FVec Ideal S65536x8 .f32) (ix2 R e) = lrow V0 R e := by
  unfold res_main_v13 lrow Layer.logits
  simp only [← v12_apply]
  generalize (res_main_v12 V0 : FVec Ideal S65536x1024 .f32) = X
  generalize (V0 (Proc.devRef .tc main_arg2) : FVec Ideal S1024x8 .f32) = W
  pointwise

/-- The place that a stable sort by decreasing logit takes a token's entry from. -/
theorem order (x : FVec Ideal S65536x8 .f32) (J : S65536x8.Idx) (R : Fin 65536) (j : Fin 8) (hJ : J = ix2 R j) (b : Fin 8 → Fin 8 → Bool)
    (hb : ∀ k k', b k k' = (FloatOps.cmpfTotal .gt (x (J.along 1 k)) (x (J.along 1 k')) == 1#1)) :
    J.along 1 (sortedFrom b (J 1)) = ix2 R (Layer.best (fun e => x (ix2 R e)) j) := by
  subst hJ
  have al : ∀ k : Fin 8, Shape.Idx.along (ix2 R j : S65536x8.Idx) 1 k = ix2 R k := fun k => by
    funext a
    match a with
    | ⟨0, _⟩ => rfl
    | ⟨1, _⟩ => rfl
  have hb' : b = Layer.before fun e => x (ix2 R e) := by
    funext k k'
    rw [hb, al, al]
    show (BitVec.ofBool (decide ((x (ix2 R k') : EReal) < x (ix2 R k))) == 1#1) = decide ((x (ix2 R k') : EReal) < x (ix2 R k))
    cases decide ((x (ix2 R k') : EReal) < x (ix2 R k)) <;> rfl
  rw [hb']
  exact al _

/-- The two greatest logits of a token and their positions. -/
theorem top_value (x : FVec Ideal S65536x8 .f32) (h) (R : Fin 65536) (k : Fin 2) (j : Fin 8) (hj : j.val = k.val) :
    (Host.topK S65536x2 1 (FloatOps.cmpfTotal .gt) x h).1 (ix2 R k) = x (ix2 R (Layer.best (fun e => x (ix2 R e)) j)) := by
  refine congrArg x (order x _ R j ?_ _ fun k k' => rfl)
  funext a
  match a with
  | ⟨0, _⟩ => exact Fin.ext (by show 0 + R.val = R.val; omega)
  | ⟨1, _⟩ => exact Fin.ext (by show 0 + k.val = j.val; omega)

theorem top_index (x : FVec Ideal S65536x8 .f32) (h) (R : Fin 65536) (k : Fin 2) (j : Fin 8) (hj : j.val = k.val) :
    (Host.topK S65536x2 1 (FloatOps.cmpfTotal .gt) x h).2 (ix2 R k) = BitVec.ofNat 32 (Layer.best (fun e => x (ix2 R e)) j).val := by
  refine congrArg (iotaInDim S65536x8 32 1) (order x _ R j ?_ _ fun k k' => rfl)
  funext a
  match a with
  | ⟨0, _⟩ => exact Fin.ext (by show 0 + R.val = R.val; omega)
  | ⟨1, _⟩ => exact Fin.ext (by show 0 + k.val = j.val; omega)

/-- The two logits less the greater, through the exponential. -/
theorem soft_apply (X : FVec Ideal S65536x2 .f32) (R : Fin 65536) (k : Fin 2) :
    (Host.exp (subf X (broadcastInDim S65536x2 ![0, 1] bcast_S65536x1_S65536x2_0_1 (broadcastInDim S65536x1 ![0] bcast_S65536_S65536x1_0 (maximumf (broadcastInDim S65536 ![] bcast_S_S65536 (constant S_ .f32 0xFF800000#32)) (Host.reduce FloatOps.maximumf X (constant S_ .f32 0xFF800000#32) reducesTo_S65536x2_S65536_d1 h_S_))))) : FVec Ideal S65536x2 .f32) (ix2 R k)
      = Ideal.exp ((X (ix2 R k) : EReal) - max (X (ix2 R 0) : EReal) (X (ix2 R 1))) := by
  have hbot : Ideal.ofBits .f32 0xFF800000#32 = (⊥ : EReal) := by simp [Ideal.ofBits, Ideal.ieee]
  have hfold : ∀ g : Fin 2 → EReal, Finset.univ.fold max (⊥ : EReal) g = max (g 0) (g 1) := fun g => by
    rw [show (Finset.univ : Finset (Fin 2)) = {0, 1} by decide, Finset.fold_insert (by decide), Finset.fold_singleton, max_bot_right]
  have e : (Host.exp (subf X (broadcastInDim S65536x2 ![0, 1] bcast_S65536x1_S65536x2_0_1 (broadcastInDim S65536x1 ![0] bcast_S65536_S65536x1_0 (maximumf (broadcastInDim S65536 ![] bcast_S_S65536 (constant S_ .f32 0xFF800000#32)) (Host.reduce FloatOps.maximumf X (constant S_ .f32 0xFF800000#32) reducesTo_S65536x2_S65536_d1 h_S_))))) : FVec Ideal S65536x2 .f32) (ix2 R k)
      = Ideal.exp ((X (ix2 R k) : EReal) - max (Ideal.ofBits .f32 0xFF800000#32)
          (Finset.univ.fold max (Ideal.ofBits .f32 0xFF800000#32) fun x : Fin 2 => (X (ix2 R x) : EReal))) := by
    pointwise
  rw [e, hbot, hfold, max_bot_left]

/-- The share of each expert: over the two places, one where the place holds the expert, times the place's part. -/
theorem comb_apply (X : FVec Ideal S65536x2 .f32) (I : IVec S65536x2 32) (R : Fin 65536) (e : Fin 8) :
    (Host.dotGeneral dot_S65536x2x8_S65536x2_S65536x8_1_1_2_n_0_0 none (uitofp .f32 (cmpi .eq (broadcastInDim S65536x2x8 ![0, 1, 2] bcast_S65536x2x1_S65536x2x8_0_1_2 (broadcastInDim S65536x2x1 ![0, 1] bcast_S65536x2_S65536x2x1_0_1 I)) (broadcastInDim S65536x2x8 ![0, 1, 2] bcast_S1x1x8_S65536x2x8_0_1_2 (iotaInDim S1x1x8 32 2)))) (Host.divf X (broadcastInDim S65536x2 ![0, 1] bcast_S65536x1_S65536x2_0_1 (broadcastInDim S65536x1 ![0] bcast_S65536_S65536x1_0 (Host.reduceAdd X (constant S_ .f32 0x00000000#32) reducesTo_S65536x2_S65536_d1 h_S_)))) : FVec Ideal S65536x8 .f32) (ix2 R e)
      = ∑ k : Fin 2, (if I (ix2 R k) = BitVec.ofNat 32 e.val then (1 : EReal) else 0)
          * Ideal.div (X (ix2 R k)) ((X (ix2 R 0) : EReal) + X (ix2 R 1)) := by
  have hu : ∀ a b : BitVec 32, (FloatOps.uitofp .f32 (IntOp.cmpi CmpIPredicate.eq a b) : Ideal .f32) = (if a = b then (1 : EReal) else 0) := by
    intro a b
    by_cases h : a = b
    · simp [h, IntOp.cmpi, FloatOps.uitofp]
    · simp [h, IntOp.cmpi, FloatOps.uitofp]
  simp only [← hu, ← Fin.sum_univ_two (fun k : Fin 2 => (X (ix2 R k) : EReal))]
  pointwise

/-- The reference's combination of the experts is the share of each. -/
theorem v26_apply (R : Fin 65536) (hr : ∀ e, Layer.Real' (lrow V0 R e)) (e : Fin 8) :
    (res_main_v26 V0 : FVec Ideal S65536x8 .f32) (ix2 R e)
      = Layer.share (lrow V0 R) (Layer.best (lrow V0 R) 0) (Layer.best (lrow V0 R) 1) e := by
  have hL : (fun e => (res_main_v13 V0 : FVec Ideal S65536x8 .f32) (ix2 R e)) = lrow V0 R := funext fun e => v13_apply V0 R e
  have t := Layer.best_top2 (lrow V0 R)
  have hv : ∀ (k : Fin 2) (j : Fin 8), j.val = k.val → (res_main_values V0 : FVec Ideal S65536x2 .f32) (ix2 R k) = lrow V0 R (Layer.best (lrow V0 R) j) :=
    fun k j hj => (top_value _ _ R k j hj).trans ((v13_apply V0 R _).trans (by rw [hL]))
  have hi : ∀ (k : Fin 2) (j : Fin 8), j.val = k.val →
      (Host.topK S65536x2 1 (FloatOps.cmpfTotal .gt) (res_main_v13 V0 : FVec Ideal S65536x8 .f32) sliceFits_S65536x8_S65536x2).2 (ix2 R k) = BitVec.ofNat 32 (Layer.best (lrow V0 R) j).val :=
    fun k j hj => (top_index _ _ R k j hj).trans (by rw [hL])
  have hx : ∀ (k : Fin 2) (j : Fin 8), j.val = k.val → (res_main_v20 V0 : FVec Ideal S65536x2 .f32) (ix2 R k)
      = Ideal.exp (lrow V0 R (Layer.best (lrow V0 R) j) - lrow V0 R (Layer.best (lrow V0 R) 0)) := fun k j hj => by
    refine (soft_apply _ R k).trans ?_
    rw [hv k j hj, hv 0 0 rfl, hv 1 1 rfl, max_eq_left (t.le _)]
  have h0 : Ideal.exp (lrow V0 R (Layer.best (lrow V0 R) 0) - lrow V0 R (Layer.best (lrow V0 R) 0)) = 1 := by
    obtain ⟨r, h⟩ := hr (Layer.best (lrow V0 R) 0)
    rw [h, ← EReal.coe_sub, sub_self, Ideal.exp_coe, Real.exp_zero]
    rfl
  have hE : ∀ a : Fin 8, (BitVec.ofNat 32 a.val = BitVec.ofNat 32 e.val) = (e = a) := fun a =>
    propext ⟨fun h => (by decide +revert : ∀ a e : Fin 8, BitVec.ofNat 32 a.val = BitVec.ofNat 32 e.val → e = a) a e h, fun h => by rw [h]⟩
  refine (comb_apply _ _ R e).trans ?_
  rw [Fin.sum_univ_two, hx 0 0 rfl, hx 1 1 rfl, hi 0 0 rfl, hi 1 1 rfl, h0]
  simp only [hE, ite_mul, one_mul, zero_mul]
  rfl

/-- One expert's part: its share of the token, times its layer of the normalised row. -/
theorem expert_apply (e : Fin 8) (x : FVec Ideal S65536x1024 .f32) (s : FVec Ideal S65536x8 .f32) (w1 w3 : FVec Ideal S8x1024x3584 .f32)
    (w2 : FVec Ideal S8x3584x1024 .f32) (h1 h2 hs) (R : Fin 65536) (d : Fin 1024) (a : FVec Ideal S65536x3584 .f32)
    (ha : a = Host.dotGeneral dot_S65536x1024_S1024x3584_S65536x3584_1_0_0_1_n_n none x (shapeCast _ (extractStridedSlice S1x1024x3584 ![e.val, 0, 0] w1 h1) shapeCasts_S1x1024x3584_S1024x3584)) :
    (mulf (broadcastInDim S65536x1024 ![0, 1] bcast_S65536x1_S65536x1024_0_1 (extractStridedSlice S65536x1 ![0, e.val] s hs)) (Host.dotGeneral dot_S65536x3584_S3584x1024_S65536x1024_1_0_0_1_n_n none (mulf (mulf a (Host.divf (broadcastInDim S65536x3584 ![] bcast_S_S65536x3584 (constant S_ .f32 0x3F800000#32)) (addf (broadcastInDim S65536x3584 ![] bcast_S_S65536x3584 (constant S_ .f32 0x3F800000#32)) (Host.exp (Host.negf a))))) (Host.dotGeneral dot_S65536x1024_S1024x3584_S65536x3584_1_0_0_1_n_n none x (shapeCast _ (extractStridedSlice S1x1024x3584 ![e.val, 0, 0] w3 h1) shapeCasts_S1x1024x3584_S1024x3584))) (shapeCast _ (extractStridedSlice S1x3584x1024 ![e.val, 0, 0] w2 h2) shapeCasts_S1x3584x1024_S3584x1024)) : FVec Ideal S65536x1024 .f32) (ix2 R d)
      = (s (ix2 R e) : EReal) * Layer.mlp (fun k => x (ix2 R k)) (fun k f => w1 (ix3 e k f)) (fun k f => w3 (ix3 e k f)) (fun f k => w2 (ix3 e f k)) d := by
  have hA : ∀ (w : FVec Ideal S8x1024x3584 .f32) (f : Fin 3584),
      (Host.dotGeneral dot_S65536x1024_S1024x3584_S65536x3584_1_0_0_1_n_n none x (shapeCast _ (extractStridedSlice S1x1024x3584 ![e.val, 0, 0] w h1) shapeCasts_S1x1024x3584_S1024x3584) : FVec Ideal S65536x3584 .f32) (ix2 R f)
        = ∑ k : Fin 1024, (x (ix2 R k) : EReal) * w (ix3 e k f) := by
    intro w f
    have hw : ∀ k : Fin 1024, (shapeCast S1024x3584 (extractStridedSlice S1x1024x3584 ![e.val, 0, 0] w h1) shapeCasts_S1x1024x3584_S1024x3584 : FVec Ideal S1024x3584 .f32) (ix2 k f) = w (ix3 e k f) := by
      intro k
      pointwise
    simp only [← hw]
    generalize (shapeCast S1024x3584 (extractStridedSlice S1x1024x3584 ![e.val, 0, 0] w h1) shapeCasts_S1x1024x3584_S1024x3584 : FVec Ideal S1024x3584 .f32) = W
    pointwise
  have hB : ∀ f : Fin 3584, (shapeCast S3584x1024 (extractStridedSlice S1x3584x1024 ![e.val, 0, 0] w2 h2) shapeCasts_S1x3584x1024_S3584x1024 : FVec Ideal S3584x1024 .f32) (ix2 f d) = w2 (ix3 e f d) := by
    intro f
    pointwise
  have hs' : (extractStridedSlice S65536x1 ![0, e.val] s hs : FVec Ideal S65536x1 .f32) (ix2 R 0) = s (ix2 R e) := by
    pointwise
  have ha' : ∀ f, a (ix2 R f) = ∑ k : Fin 1024, (x (ix2 R k) : EReal) * w1 (ix3 e k f) := fun f => by rw [ha]; exact hA w1 f
  have hb' := hA w3
  clear ha
  unfold Layer.mlp Layer.hidden
  simp only [← ha', ← hb', ← hB, ← hs']
  generalize (Host.dotGeneral dot_S65536x1024_S1024x3584_S65536x3584_1_0_0_1_n_n none x (shapeCast _ (extractStridedSlice S1x1024x3584 ![e.val, 0, 0] w3 h1) shapeCasts_S1x1024x3584_S1024x3584) : FVec Ideal S65536x3584 .f32) = b
  generalize (shapeCast S3584x1024 (extractStridedSlice S1x3584x1024 ![e.val, 0, 0] w2 h2) shapeCasts_S1x3584x1024_S3584x1024 : FVec Ideal S3584x1024 .f32) = W
  generalize (extractStridedSlice S65536x1 ![0, e.val] s hs : FVec Ideal S65536x1 .f32) = S
  unfold Ideal.logistic
  pointwise

/-- Nine additions at one entry. -/
theorem sum8 {A Z : FVec Ideal S65536x1024 .f32} {E : Fin 8 → FVec Ideal S65536x1024 .f32} {i : S65536x1024.Idx} {g : Fin 8 → EReal}
    (hz : (Z i : EReal) = 0) (h : ∀ e, (E e i : EReal) = g e) :
    addf A (addf (addf (addf (addf (addf (addf (addf (addf Z (E 0)) (E 1)) (E 2)) (E 3)) (E 4)) (E 5)) (E 6)) (E 7)) i
      = (A i : EReal) + ∑ e, g e := by
  show (A i : EReal) + (Z i + E 0 i + E 1 i + E 2 i + E 3 i + E 4 i + E 5 i + E 6 i + E 7 i) = _
  rw [Fin.sum_univ_eight, hz, zero_add]
  simp only [h]

/-- A token's share of one expert, as the reference has it. -/
def comb (R : Fin 65536) (e : Fin 8) : EReal := (res_main_v26 V0 : FVec Ideal S65536x8 .f32) (ix2 R e)

/-- The whole layer's sum of the experts' parts. -/
theorem v148_apply (R : Fin 65536) (d : Fin 1024) :
    (res_main_v148 V0 : FVec Ideal S65536x1024 .f32) (ix2 R d)
      = hrow V0 R d + ∑ e : Fin 8, comb V0 R e
          * Layer.mlp (nrow V0 R) (fun k f => (V0 (Proc.devRef .tc main_arg3) : FVec Ideal S8x1024x3584 .f32) (ix3 e k f))
              (fun k f => (V0 (Proc.devRef .tc main_arg4) : FVec Ideal S8x1024x3584 .f32) (ix3 e k f))
              (fun f k => (V0 (Proc.devRef .tc main_arg5) : FVec Ideal S8x3584x1024 .f32) (ix3 e f k)) d := by
  have hn : (fun k => (res_main_v12 V0 : FVec Ideal S65536x1024 .f32) (ix2 R k)) = nrow V0 R := funext fun k => v12_apply V0 R k
  rw [← hn]
  unfold res_main_v148 res_main_v102
  refine sum8 (E := ![_, _, _, _, _, _, _, _]) ?_ fun e => ?_
  · pointwise
  · match e with
    | ⟨0, _⟩ => exact expert_apply 0 (res_main_v12 V0) (res_main_v26 V0) (V0 (Proc.devRef .tc main_arg3)) (V0 (Proc.devRef .tc main_arg4)) (V0 (Proc.devRef .tc main_arg5)) slices_S8x1024x3584_S1x1024x3584_0_0_0 slices_S8x3584x1024_S1x3584x1024_0_0_0 slices_S65536x8_S65536x1_0_0 R d (res_main_v35 V0) rfl
    | ⟨1, _⟩ => exact expert_apply 1 (res_main_v12 V0) (res_main_v26 V0) (V0 (Proc.devRef .tc main_arg3)) (V0 (Proc.devRef .tc main_arg4)) (V0 (Proc.devRef .tc main_arg5)) slices_S8x1024x3584_S1x1024x3584_1_0_0 slices_S8x3584x1024_S1x3584x1024_1_0_0 slices_S65536x8_S65536x1_0_1 R d (res_main_v50 V0) rfl
    | ⟨2, _⟩ => exact expert_apply 2 (res_main_v12 V0) (res_main_v26 V0) (V0 (Proc.devRef .tc main_arg3)) (V0 (Proc.devRef .tc main_arg4)) (V0 (Proc.devRef .tc main_arg5)) slices_S8x1024x3584_S1x1024x3584_2_0_0 slices_S8x3584x1024_S1x3584x1024_2_0_0 slices_S65536x8_S65536x1_0_2 R d (res_main_v65 V0) rfl
    | ⟨3, _⟩ => exact expert_apply 3 (res_main_v12 V0) (res_main_v26 V0) (V0 (Proc.devRef .tc main_arg3)) (V0 (Proc.devRef .tc main_arg4)) (V0 (Proc.devRef .tc main_arg5)) slices_S8x1024x3584_S1x1024x3584_3_0_0 slices_S8x3584x1024_S1x3584x1024_3_0_0 slices_S65536x8_S65536x1_0_3 R d (res_main_v80 V0) rfl
    | ⟨4, _⟩ => exact expert_apply 4 (res_main_v12 V0) (res_main_v26 V0) (V0 (Proc.devRef .tc main_arg3)) (V0 (Proc.devRef .tc main_arg4)) (V0 (Proc.devRef .tc main_arg5)) slices_S8x1024x3584_S1x1024x3584_4_0_0 slices_S8x3584x1024_S1x3584x1024_4_0_0 slices_S65536x8_S65536x1_0_4 R d (res_main_v95 V0) rfl
    | ⟨5, _⟩ => exact expert_apply 5 (res_main_v12 V0) (res_main_v26 V0) (V0 (Proc.devRef .tc main_arg3)) (V0 (Proc.devRef .tc main_arg4)) (V0 (Proc.devRef .tc main_arg5)) slices_S8x1024x3584_S1x1024x3584_5_0_0 slices_S8x3584x1024_S1x3584x1024_5_0_0 slices_S65536x8_S65536x1_0_5 R d (res_main_v110 V0) rfl
    | ⟨6, _⟩ => exact expert_apply 6 (res_main_v12 V0) (res_main_v26 V0) (V0 (Proc.devRef .tc main_arg3)) (V0 (Proc.devRef .tc main_arg4)) (V0 (Proc.devRef .tc main_arg5)) slices_S8x1024x3584_S1x1024x3584_6_0_0 slices_S8x3584x1024_S1x3584x1024_6_0_0 slices_S65536x8_S65536x1_0_6 R d (res_main_v125 V0) rfl
    | ⟨7, _⟩ => exact expert_apply 7 (res_main_v12 V0) (res_main_v26 V0) (V0 (Proc.devRef .tc main_arg3)) (V0 (Proc.devRef .tc main_arg4)) (V0 (Proc.devRef .tc main_arg5)) slices_S8x1024x3584_S1x1024x3584_7_0_0 slices_S8x3584x1024_S1x3584x1024_7_0_0 slices_S65536x8_S65536x1_0_7 R d (res_main_v140 V0) rfl

/-- The gated addition that ends the reference, of any rows. -/
theorem gated_apply (O : FVec Ideal S65536x1024 .f32) (wg : FVec Ideal S1024x1024 .f32) (p : FVec Ideal S65536x256 .f32)
    (wp : FVec Ideal S256x1024 .f32) (R : Fin 65536) (d : Fin 1024) :
    (addf O (mulf (Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none O wg))))) (Host.dotGeneral dot_S65536x256_S256x1024_S65536x1024_1_0_0_1_n_n none p wp)) : FVec Ideal S65536x1024 .f32) (ix2 R d)
      = Layer.gated (fun k => O (ix2 R k)) (fun k d => wg (ix2 k d)) (fun k => p (ix2 R k)) (fun k d => wp (ix2 k d)) d := by
  unfold Layer.gated Ideal.logistic
  pointwise

/-- The reference's result at a row and a column: the expert block of that row. -/
theorem result_apply (R : Fin 65536) (hr : ∀ e, Layer.Real' (lrow V0 R e)) (d : Fin 1024) :
    (addf (res_main_v148 V0) (mulf (Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none (φ₁ := .f32) (φ₂ := .f32) (res_main_v148 V0) (V0 (Proc.devRef .tc main_arg7))))))) (Host.dotGeneral dot_S65536x256_S256x1024_S65536x1024_1_0_0_1_n_n none (φ₁ := .f32) (φ₂ := .f32) (V0 (Proc.devRef .tc main_arg6)) (V0 (Proc.devRef .tc main_arg8)))) : FVec Ideal S65536x1024 .f32) (ix2 R d)
      = Layer.experts (hrow V0 R) (gn V0) (fun k e => (V0 (Proc.devRef .tc main_arg2) : FVec Ideal S1024x8 .f32) (ix2 k e))
          (fun e k f => (V0 (Proc.devRef .tc main_arg3) : FVec Ideal S8x1024x3584 .f32) (ix3 e k f))
          (fun e k f => (V0 (Proc.devRef .tc main_arg4) : FVec Ideal S8x1024x3584 .f32) (ix3 e k f))
          (fun e f k => (V0 (Proc.devRef .tc main_arg5) : FVec Ideal S8x3584x1024 .f32) (ix3 e f k))
          (fun k => (V0 (Proc.devRef .tc main_arg6) : FVec Ideal S65536x256 .f32) (ix2 R k))
          (fun k d => (V0 (Proc.devRef .tc main_arg7) : FVec Ideal S1024x1024 .f32) (ix2 k d))
          (fun k d => (V0 (Proc.devRef .tc main_arg8) : FVec Ideal S256x1024 .f32) (ix2 k d)) d := by
  refine (gated_apply (res_main_v148 V0) (V0 (Proc.devRef .tc main_arg7)) (V0 (Proc.devRef .tc main_arg6)) (V0 (Proc.devRef .tc main_arg8)) R d).trans ?_
  unfold Layer.experts
  refine congrArg (fun o => Layer.gated o _ _ _ d) (funext fun k => ?_)
  refine (v148_apply V0 R k).trans ?_
  refine congrArg (hrow V0 R k + ·) (Finset.sum_congr rfl fun e _ => ?_)
  have hc : comb V0 R e = Layer.share (lrow V0 R) (Layer.best (lrow V0 R) 0) (Layer.best (lrow V0 R) 1) e := v26_apply V0 R hr e
  unfold lrow nrow at hc
  unfold nrow
  rw [hc]

end Cert.Reference3Ideal.Body

end
-- ==== Proof.Moe.Claims.lean ====
/-
  The expert call's claims: the reference's frame, what the precondition says of the logits, and the equality of the two
  results.
-/
module

public import proofs.«01_k».proof.Defs
public import proofs.«01_k».proof.Proof.Moe.Array
public import proofs.«01_k».proof.Proof.Moe.Host
public import Idealize.ShloMosaic.Lib.ReduceAll
public import proofs.«01_k».proof.Proof.Gen.Pre_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The expert reference runs to its end and leaves its arguments as they were. -/
theorem moe_host_frame : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- A number whose absolute value lies below infinity is real. -/
theorem real_of_below (x : EReal) (h : FloatOps.cmpf (F := Ideal) (φ := .f32) .olt (FloatOps.hostAbsf (F := Ideal) (φ := .f32) x) (FloatOps.ofBits (F := Ideal) .f32 0x7F800000#32) = 1#1) :
    Layer.Real' x := by
  have htop : Ideal.ofBits .f32 0x7F800000#32 = (⊤ : EReal) := by simp [Ideal.ofBits, Ideal.ieee]
  have h' : BitVec.ofBool (decide (max x (-x) < Ideal.ofBits .f32 0x7F800000#32)) = 1#1 := h
  rw [htop] at h'
  induction x using EReal.rec with
  | bot => simp at h'
  | top => simp at h'
  | coe r => exact ⟨r, rfl⟩

/-- Under the precondition the token rows, the gains and the router's weights are real. -/
theorem finite_real (m : (ℓ : Loc Cert.Kernel3Ideal.nD Cert.Kernel3Ideal.τ Cert.Kernel3Ideal.sig) → Buf (Elt Ideal) ℓ)
    (hp : Cert.Pre_Kernel3Ideal_finite (hPre_finite := Cert.Pre_finite.Gen.facts) m) (c : Dev Cert.Kernel3Ideal.nD) :
    (∀ t d, Layer.Real' (Cert.Kernel3Ideal.Body.tok m c t d)) ∧ (∀ d, Layer.Real' (Cert.Kernel3Ideal.Body.gain m c d))
      ∧ ∀ k e, Layer.Real' (Cert.Kernel3Ideal.Body.router m c k e) := by
  have h := congrFun (hp c) fun i => i.elim0
  unfold Cert.Pre_finite.fn at h
  dsimp only at h
  obtain ⟨h01, h2⟩ := IntOp.andi_eq_one.1 h
  obtain ⟨h0, h1⟩ := IntOp.andi_eq_one.1 h01
  haveI : Subsingleton (Cert.Pre_finite.S_).Idx := ⟨fun a b => funext fun i => i.elim0⟩
  exact ⟨fun t d => real_of_below _ (Host.reduce_andi_all _ _ _ _ _ h0 (ix2 t d)),
    fun d => real_of_below _ (Host.reduce_andi_all _ _ _ _ _ h1 (ix1 d)),
    fun k e => real_of_below _ (Host.reduce_andi_all _ _ _ _ _ h2 (ix2 k e))⟩

/-- Under the precondition every token's logits are real. -/
theorem logits_real (m : (ℓ : Loc Cert.Kernel3Ideal.nD Cert.Kernel3Ideal.τ Cert.Kernel3Ideal.sig) → Buf (Elt Ideal) ℓ)
    (hp : Cert.Pre_Kernel3Ideal_finite (hPre_finite := Cert.Pre_finite.Gen.facts) m) (c : Dev Cert.Kernel3Ideal.nD) (t : Fin 65536) (e : Fin 8) :
    Layer.Real' (Cert.Kernel3Ideal.Body.lrow m c t e) := by
  obtain ⟨h, g, w⟩ := finite_real m hp c
  exact Layer.real_logits (Layer.real_unit (h t) g) w e

/-- From equal finite arguments the expert kernel and its reference end with equal results. -/
theorem moe_algebraic : Cert.algebraic_Kernel3Ideal_Reference3Ideal_pre_finite (hKernel3Ideal := Cert.Kernel3Ideal.Gen.facts)
    (hReference3Ideal := Cert.Reference3Ideal.Gen.facts) (hPre_finite := Cert.Pre_finite.Gen.facts) := by
  intro m ρ m' ρ' hp hm
  refine ⟨fun c => Cert.Kernel3Ideal.Value.G9 m c, Cert.Kernel3Ideal.Value.run m ρ,
    (θ_run _ _ _).mono (fun r h c => ⟨(h c).1.trans ?_, (h c).2⟩) (Cert.Reference3Ideal.Value.run m' ρ')⟩
  obtain ⟨h0, h1, h2, h3, h4, h5, h6, h7, h8⟩ := hm c
  have e0 : Cert.Reference3Ideal.Body.hrow (StableHlo.launchContents m' c) = Cert.Kernel3Ideal.Body.tok m c := funext fun t => funext fun d => congrFun h0 (ix2 t d)
  have e1 : Cert.Reference3Ideal.Body.gn (StableHlo.launchContents m' c) = Cert.Kernel3Ideal.Body.gain m c := funext fun d => congrFun h1 (ix1 d)
  have hl : Cert.Reference3Ideal.Body.lrow (StableHlo.launchContents m' c) = Cert.Kernel3Ideal.Body.lrow m c := by
    funext t
    unfold Cert.Reference3Ideal.Body.lrow Cert.Reference3Ideal.Body.nrow Cert.Kernel3Ideal.Body.lrow Cert.Kernel3Ideal.Body.nrow
    rw [e0, e1]
    exact congrArg (Layer.logits _) (funext fun k => funext fun e => congrFun h2 (ix2 k e))
  funext i
  obtain ⟨R, d, rfl⟩ : ∃ (R : Fin 65536) (d : Fin 1024), i = ix2 R d := ⟨i 0, i 1, ValueIdx.eq_ix2 i⟩
  refine (Cert.Reference3Ideal.Body.result_apply (StableHlo.launchContents m' c) R (fun e => by rw [hl]; exact logits_real m hp c R e) d).trans ?_
  refine Eq.trans ?_ (Cert.Kernel3Ideal.Body.result m c (fun t e => logits_real m hp c t e) R d).symm
  rw [e0, e1]
  congr 1
  · exact funext fun k => funext fun e => congrFun h2 (ix2 k e)
  · exact funext fun e => funext fun k => funext fun f => congrFun h3 (ix3 e k f)
  · exact funext fun e => funext fun k => funext fun f => congrFun h4 (ix3 e k f)
  · exact funext fun e => funext fun f => funext fun k => congrFun h5 (ix3 e f k)
  · exact funext fun k => congrFun h6 (ix2 R k)
  · exact funext fun k => funext fun d => congrFun h7 (ix2 k d)
  · exact funext fun k => funext fun d => congrFun h8 (ix2 k d)

end Cert.Proof

end
-- ==== Proof.Mix.Plain.lean ====
/-
  The mixing step on plain functions: each branch's output projection through its own gate, summed, projected, added to the row.
-/
module

public import proofs.«01_k».proof.Proof.Layer.Plain

@[expose] public section

noncomputable section

namespace Layer

open Idealize.ShloMosaic

/-- One branch: `sigmoid (x·wg + cg) * (b·wb)`. -/
def branch (x : Fin 1024 → EReal) (wg : Fin 1024 → Fin 1024 → EReal) (cg : Fin 1024 → EReal) (b : Fin 512 → EReal)
    (wb : Fin 512 → Fin 1024 → EReal) (d : Fin 1024) : EReal :=
  Ideal.logistic ((∑ k, x k * wg k d) + cg d) * ∑ k, b k * wb k d

/-- The mixing step of a row `h` with gains `g`, four branches `b0 … b3`, their weights `w0 … w3`, gates `wg`, `cg` and the
    last projection `wo`. -/
def mix (h g : Fin 1024 → EReal) (b0 b1 b2 b3 : Fin 512 → EReal) (w0 w1 w2 w3 : Fin 512 → Fin 1024 → EReal)
    (wg : Fin 4 → Fin 1024 → Fin 1024 → EReal) (cg : Fin 4 → Fin 1024 → EReal) (wo : Fin 1024 → Fin 1024 → EReal) (d : Fin 1024) : EReal :=
  h d + ∑ k, (branch (unit h g) (wg 0) (cg 0) b0 w0 k + branch (unit h g) (wg 1) (cg 1) b1 w1 k
    + branch (unit h g) (wg 2) (cg 2) b2 w2 k + branch (unit h g) (wg 3) (cg 3) b3 w3 k) * wo k d

end Layer

end
-- ==== Proof.Mix.Block.lean ====
/-
  The mixing kernel's body at a row and a column of a block of 512 rows.
-/
module

public import proofs.«01_k».proof.Proof.Mix.Plain
public import proofs.«01_k».proof.Proof.Moe.Block
public import proofs.«01_k».proof.Proof.Gen.Kernel4Ideal.Frame

@[expose] public section

set_option maxRecDepth 16384

noncomputable section

namespace Cert.Kernel4Ideal.Body

open Cert.Kernel4Ideal Cert.Kernel4Ideal.Gen Idealize.ShloMosaic Idealize.ShloMosaic.TcCoe
open Cert.Kernel3Ideal.Body (mm zero2)

/-- The normalised rows. -/
theorem pay2_apply (h : Vec Ideal S512x1024 .f32) (g : Vec Ideal S1x1024 .f32) (r : Fin 512) (d : Fin 1024) :
    k0_pay2 h g (ix2 r d) = Layer.unit (fun k => h (ix2 r k)) (fun k => g (ix2 0 k)) d := by
  unfold k0_pay2
  simp only [shapeCast_self]
  pointwise [Layer.unit]

/-- A product with one slab of the gate's weights. -/
theorem gate_apply (x : FVec Ideal S512x1024 .bf16) (w : Vec Ideal S1x1024x1024 .bf16) (r : Fin 512) (d : Fin 1024) :
    (k0_pay6 x w (ix2 r d) : EReal) = ∑ k : Fin 1024, (x (ix2 r k) : EReal) * w (ix3 0 k d) := by
  unfold k0_pay6
  refine (mm (φ₁ := .bf16) (φ₂ := .bf16) (M := 512) (K := 1024) (N := 1024) _ _ rfl _ _ _ _).trans ?_
  refine Finset.sum_congr rfl fun k _ => congrArg (_ * ·) ?_
  pointwise

/-- A gate's bias at every row. -/
theorem bias_apply (v : Vec Ideal S1x1x1024 .f32) (r : Fin 512) (d : Fin 1024) : k0_pay7 v (ix2 r d) = v (ix3 0 0 d) := by
  unfold k0_pay7
  pointwise

/-- A branch through one slab of its output weights. -/
theorem out_slab (b : FVec Ideal S512x512 .bf16) (w : Vec Ideal S1x512x1024 .bf16) (r : Fin 512) (d : Fin 1024) :
    (matmul dot_S512x512_S512x1024_S512x1024_1_0_0_1_n_n none b (shapeCast S512x1024 w shapeCasts_S1x512x1024_S512x1024 : FVec Ideal S512x1024 .bf16) (constant S512x1024 .f32 0x00000000#32) (ix2 r d) : EReal)
      = ∑ k : Fin 512, (b (ix2 r k) : EReal) * w (ix3 0 k d) := by
  refine (mm (φ₁ := .bf16) (φ₂ := .bf16) (M := 512) (K := 512) (N := 1024) _ _ rfl _ _ _ _).trans ?_
  refine Finset.sum_congr rfl fun k _ => congrArg (_ * ·) ?_
  pointwise

/-- The first branch. -/
theorem pay3_apply (h : Vec Ideal S512x1024 .f32) (g : Vec Ideal S1x1024 .f32) (wg : Vec Ideal S1x1024x1024 .bf16) (cg : Vec Ideal S1x1x1024 .f32)
    (b : Vec Ideal S512x512 .bf16) (wb : Vec Ideal S1x512x1024 .bf16) (r : Fin 512) (d : Fin 1024) :
    k0_pay3 h g wg cg b wb (ix2 r d) = Layer.branch (fun k => k0_pay2 h g (ix2 r k)) (fun k d => wg (ix3 0 k d)) (fun d => cg (ix3 0 0 d))
      (fun k => b (ix2 r k)) (fun k d => wb (ix3 0 k d)) d := by
  unfold k0_pay3 Layer.branch
  simp only [shapeCast_self]
  exact congrArg₂ (· * ·) (congrArg Ideal.logistic (congrArg₂ (· + ·) (gate_apply _ _ r d) (bias_apply _ r d))) (out_slab _ _ r d)

/-- The second and the third branch added. -/
theorem pay5_apply (x : FVec Ideal S512x1024 .bf16) (a z : FVec Ideal S512x1024 .f32) (c1 : Vec Ideal S1x1x1024 .f32)
    (b1 : Vec Ideal S512x512 .bf16) (w1 : Vec Ideal S1x512x1024 .bf16) (g2 : Vec Ideal S1x1024x1024 .bf16) (c2 : Vec Ideal S1x1x1024 .f32)
    (b2 : Vec Ideal S512x512 .bf16) (w2 : Vec Ideal S1x512x1024 .bf16) (g1 : Vec Ideal S1x1024x1024 .bf16) (hz : z = k0_pay6 x g1) (r : Fin 512) (d : Fin 1024) :
    k0_pay5 x a z c1 b1 w1 g2 c2 b2 w2 (ix2 r d)
      = (a (ix2 r d) : EReal) + Layer.branch (fun k => x (ix2 r k)) (fun k d => g1 (ix3 0 k d)) (fun d => c1 (ix3 0 0 d)) (fun k => b1 (ix2 r k)) (fun k d => w1 (ix3 0 k d)) d
        + Layer.branch (fun k => x (ix2 r k)) (fun k d => g2 (ix3 0 k d)) (fun d => c2 (ix3 0 0 d)) (fun k => b2 (ix2 r k)) (fun k d => w2 (ix3 0 k d)) d := by
  subst hz
  unfold k0_pay5 Layer.branch
  simp only [shapeCast_self]
  refine congrArg₂ (· + ·) (congrArg (_ + ·) ?_) ?_
  · exact congrArg₂ (· * ·) (congrArg Ideal.logistic (congrArg₂ (· + ·) (gate_apply _ _ r d) (bias_apply _ r d))) (out_slab _ _ r d)
  · exact congrArg₂ (· * ·) (congrArg Ideal.logistic (congrArg₂ (· + ·) (gate_apply _ _ r d) (bias_apply _ r d))) (out_slab _ _ r d)

/-- The fourth branch added, the last projection, and the row itself. -/
theorem pay1_apply (h : Vec Ideal S512x1024 .f32) (a : FVec Ideal S512x1024 .f32) (x : FVec Ideal S512x1024 .bf16) (g3 : Vec Ideal S1x1024x1024 .bf16)
    (c3 : Vec Ideal S1x1x1024 .f32) (b3 : Vec Ideal S512x512 .bf16) (w3 : Vec Ideal S1x512x1024 .bf16) (wo : Vec Ideal S1024x1024 .bf16) (r : Fin 512) (d : Fin 1024) :
    k0_pay1 h a (k0_pay6 x g3) (k0_pay7 c3) b3 w3 wo (ix2 r d)
      = (h (ix2 r d) : EReal) + ∑ k : Fin 1024, ((a (ix2 r k) : EReal)
        + Layer.branch (fun k => x (ix2 r k)) (fun k d => g3 (ix3 0 k d)) (fun d => c3 (ix3 0 0 d)) (fun k => b3 (ix2 r k)) (fun k d => w3 (ix3 0 k d)) k) * wo (ix2 k d) := by
  unfold k0_pay1 Layer.branch
  simp only [shapeCast_self]
  refine congrArg (_ + ·) ?_
  refine (mm (φ₁ := .bf16) (φ₂ := .bf16) (M := 512) (K := 1024) (N := 1024) _ _ rfl _ _ _ _).trans ?_
  refine Finset.sum_congr rfl fun k _ => congrArg (· * _) ?_
  refine congrArg ((a (ix2 r k) : EReal) + ·) ?_
  exact congrArg₂ (· * ·) (congrArg Ideal.logistic (congrArg₂ (· + ·) (gate_apply _ _ r k) (bias_apply _ r k))) (out_slab _ _ r k)

/-- A load of one slab of a stack of matrices, at a row and a column. -/
theorem slab {B M N : ℕ} {α : EltTy} (X : Vec Ideal ⟨3, ![B, M, N]⟩ α) (off : Fin 3 → ℕ)
    (inb : ∀ a, off a + (⟨3, ![1, M, N]⟩ : Shape).size a ≤ (⟨3, ![B, M, N]⟩ : Shape).size a) (e : Fin B) (he : off 0 = e.val) (h1 : off 1 = 0) (h2 : off 2 = 0)
    (i : Fin M) (j : Fin N) :
    View.ld X (Rect.unit (s := ⟨3, ![B, M, N]⟩) off (⟨3, ![1, M, N]⟩ : Shape).size inb) (ix3 0 i j) = X (ix3 e i j) := by
  refine congrArg X (funext fun a => Fin.ext ?_)
  match a with
  | ⟨0, _⟩ => show off 0 + 1 * 0 = e.val; omega
  | ⟨1, _⟩ => show off 1 + 1 * i.val = i.val; omega
  | ⟨2, _⟩ => show off 2 + 1 * j.val = j.val; omega

/-- The whole body at a row and a column, from its input blocks: the mixing step of that row. -/
theorem out_apply (x0 : Vec Ideal S512x1024 .f32) (x1 : Vec Ideal S1x1024 .f32) (x2 x3 x4 x5 : Vec Ideal S512x512 .bf16)
    (x6 : Vec Ideal S4x512x1024 .bf16) (x7 : Vec Ideal S4x1024x1024 .bf16) (x8 : Vec Ideal S4x1x1024 .f32) (x9 : Vec Ideal S1024x1024 .bf16)
    (r : Fin 512) (d : Fin 1024) :
    out0_10 x0 x1 x2 x3 x4 x5 x6 x7 x8 x9 (ix2 r d)
      = Layer.mix (fun k => x0 (ix2 r k)) (fun k => x1 (ix2 0 k)) (fun k => x2 (ix2 r k)) (fun k => x3 (ix2 r k)) (fun k => x4 (ix2 r k)) (fun k => x5 (ix2 r k))
          (fun k d => x6 (ix3 0 k d)) (fun k d => x6 (ix3 1 k d)) (fun k d => x6 (ix3 2 k d)) (fun k d => x6 (ix3 3 k d))
          (fun b k d => x7 (ix3 b k d)) (fun b d => x8 (ix3 b 0 d)) (fun k d => x9 (ix2 k d)) d := by
  unfold out0_10 k0_pay8
  rw [View.canon_unit_zero zero2]
  have l0 : View.ld x0 r0_0 = x0 := View.ld_unit_zero zero2 _ _
  have l1 : View.ld x1 r0_1 = x1 := View.ld_unit_zero zero2 _ _
  have l4 : ∀ X : Vec Ideal S512x512 .bf16, View.ld X r0_4 = X := fun X => View.ld_unit_zero zero2 _ _
  have l9 : View.ld x9 r0_15 = x9 := View.ld_unit_zero zero2 _ _
  rw [l0, l1, l4, l4, l4, l4, l9]
  refine (pay1_apply _ _ _ _ _ _ _ _ r d).trans ?_
  unfold Layer.mix
  have g0 : ∀ k d, View.ld x7 r0_2 (ix3 0 k d) = x7 (ix3 0 k d) := fun k d => slab x7 _ _ 0 rfl rfl rfl k d
  have g1 : ∀ k d, View.ld x7 r0_6 (ix3 0 k d) = x7 (ix3 1 k d) := fun k d => slab x7 _ _ 1 rfl rfl rfl k d
  have g2 : ∀ k d, View.ld x7 r0_9 (ix3 0 k d) = x7 (ix3 2 k d) := fun k d => slab x7 _ _ 2 rfl rfl rfl k d
  have g3 : ∀ k d, View.ld x7 r0_12 (ix3 0 k d) = x7 (ix3 3 k d) := fun k d => slab x7 _ _ 3 rfl rfl rfl k d
  have c0 : ∀ d, View.ld x8 r0_3 (ix3 0 0 d) = x8 (ix3 0 0 d) := fun d => slab x8 _ _ 0 rfl rfl rfl 0 d
  have c1 : ∀ d, View.ld x8 r0_7 (ix3 0 0 d) = x8 (ix3 1 0 d) := fun d => slab x8 _ _ 1 rfl rfl rfl 0 d
  have c2 : ∀ d, View.ld x8 r0_10 (ix3 0 0 d) = x8 (ix3 2 0 d) := fun d => slab x8 _ _ 2 rfl rfl rfl 0 d
  have c3 : ∀ d, View.ld x8 r0_13 (ix3 0 0 d) = x8 (ix3 3 0 d) := fun d => slab x8 _ _ 3 rfl rfl rfl 0 d
  have w0 : ∀ k d, View.ld x6 r0_5 (ix3 0 k d) = x6 (ix3 0 k d) := fun k d => slab x6 _ _ 0 rfl rfl rfl k d
  have w1 : ∀ k d, View.ld x6 r0_8 (ix3 0 k d) = x6 (ix3 1 k d) := fun k d => slab x6 _ _ 1 rfl rfl rfl k d
  have w2 : ∀ k d, View.ld x6 r0_11 (ix3 0 k d) = x6 (ix3 2 k d) := fun k d => slab x6 _ _ 2 rfl rfl rfl k d
  have w3 : ∀ k d, View.ld x6 r0_14 (ix3 0 k d) = x6 (ix3 3 k d) := fun k d => slab x6 _ _ 3 rfl rfl rfl k d
  refine congrArg (_ + ·) (Finset.sum_congr rfl fun k _ => congrArg (· * _) (congrArg₂ (· + ·) ?_ ?_))
  · refine (pay5_apply _ _ _ _ _ _ _ _ _ _ (View.ld x7 r0_6) rfl r k).trans ?_
    refine congrArg₂ (· + ·) (congrArg₂ (· + ·) ((pay3_apply _ _ _ _ _ _ r k).trans ?_) ?_) ?_
    · simp only [pay2_apply, g0, c0, w0]
    · simp only [pay2_apply, g1, c1, w1]
    · simp only [pay2_apply, g2, c2, w2]
  · simp only [pay2_apply, g3, c3, w3]

end Cert.Kernel4Ideal.Body

end
-- ==== Proof.Mix.Array.lean ====
/-
  The mixing kernel's output array after its run, entry by entry: grid point `t` writes rows `512 t …`, and a row of the
  result is the mixing step of that row of the arguments.
-/
module

public import proofs.«01_k».proof.Proof.Mix.Block
public import proofs.«01_k».proof.Proof.Gen.Kernel4Ideal.Value

@[expose] public section

set_option maxRecDepth 16384

noncomputable section

namespace Cert.Kernel4Ideal.Body

open Cert.Kernel4Ideal Cert.Kernel4Ideal.Gen Idealize.ShloMosaic Idealize.ShloMosaic.TcCoe

variable (m : (ℓ : Loc nD τ sig) → Buf (Elt Ideal) ℓ) (c : Dev nD)

/-- The blocks of rows at each grid point. -/
theorem index_rows : ∀ t : Fin cfg0.N, win0_0.index t = ![t.val, 0] ∧ win0_2.index t = ![t.val, 0] ∧ win0_3.index t = ![t.val, 0]
    ∧ win0_4.index t = ![t.val, 0] ∧ win0_5.index t = ![t.val, 0] ∧ win0_10.index t = ![t.val, 0] :=
  (by decide +kernel : ∀ t : Fin grid0.N, win0_0.index t = ![t.val, 0] ∧ win0_2.index t = ![t.val, 0] ∧ win0_3.index t = ![t.val, 0]
    ∧ win0_4.index t = ![t.val, 0] ∧ win0_5.index t = ![t.val, 0] ∧ win0_10.index t = ![t.val, 0])

/-- The weights are read whole at every grid point. -/
theorem index_whole : ∀ t : Fin cfg0.N, win0_1.index t = ![0, 0] ∧ win0_9.index t = ![0, 0] ∧ win0_6.index t = ![0, 0, 0]
    ∧ win0_7.index t = ![0, 0, 0] ∧ win0_8.index t = ![0, 0, 0] :=
  (by decide +kernel : ∀ t : Fin grid0.N, win0_1.index t = ![0, 0] ∧ win0_9.index t = ![0, 0] ∧ win0_6.index t = ![0, 0, 0]
    ∧ win0_7.index t = ![0, 0, 0] ∧ win0_8.index t = ![0, 0, 0])

/-- The result array at row `512 t + r` is what grid point `t`'s body stores at row `r`. -/
theorem final_apply (t : Fin 128) (r : Fin 512) (d : Fin 1024) :
    (dats m 0 c).arrAt 10 cfg0.N (ix2 (⟨512 * t.val + r.val, by omega⟩ : Fin 65536) d)
      = out0_10 (iblk m c 0 t) (iblk m c 1 t) (iblk m c 2 t) (iblk m c 3 t) (iblk m c 4 t) (iblk m c 5 t) (iblk m c 6 t) (iblk m c 7 t) (iblk m c 8 t) (iblk m c 9 t) (ix2 r d) := by
  have h := congrFun ((Value.blocks10 m c t (flush0_10 t)).trans (Value.flushed10 m c t)) (ix2 r d)
  refine Eq.trans (congrArg ((dats m 0 c).arrAt 10 cfg0.N) ?_) h
  funext a
  have hi := (index_rows t).2.2.2.2.2
  match a with
  | ⟨0, _⟩ => exact Fin.ext (by show 512 * t.val + r.val = win0_10.index t 0 * 512 + 1 * r.val; rw [hi]; simp; omega)
  | ⟨1, _⟩ => exact Fin.ext (by show d.val = win0_10.index t 1 * 1024 + 1 * d.val; rw [hi]; simp)

/-- Grid point `t`'s block of the rows is rows `512 t …` of the first argument. -/
theorem blk0 (t : Fin 128) (r : Fin 512) (d : Fin 1024) :
    iblk m c 0 t (ix2 r d) = m ((c : Thread nD τ).loc main_arg0) (ix2 (⟨512 * t.val + r.val, by omega⟩ : Fin 65536) d) := by
  refine Eq.trans (congrArg (V m c (Pipeline.arrRef spec0 0)) (?_ : _ = ix2 (⟨512 * t.val + r.val, by omega⟩ : Fin 65536) d)) (congrFun (V_main_arg0 m c) _)
  funext a
  have hi := (index_rows t).1
  match a with
  | ⟨0, _⟩ => exact Fin.ext (by show win0_0.index t 0 * 512 + 1 * r.val = 512 * t.val + r.val; rw [hi]; simp; omega)
  | ⟨1, _⟩ => exact Fin.ext (by show win0_0.index t 1 * 1024 + 1 * d.val = d.val; rw [hi]; simp)

/-- The gain reaches the call as a matrix of one row. -/
theorem V_v10 : V m c main_v10 = (broadcastInDim S1x1024 ![1] bcast_S1024_S1x1024_1 (m ((c : Thread nD τ).loc main_arg1)) : FVec Ideal S1x1024 .f32) := by
  show StableHlo.after hostOps0 (fun b => m (c, b)) main_v10 = _
  after_results_simp

/-- The gain's block is the gain. -/
theorem blk1 (t : Fin 128) (d : Fin 1024) : iblk m c 1 t (ix2 0 d) = m ((c : Thread nD τ).loc main_arg1) (ix1 d) := by
  refine Eq.trans (congrArg (V m c (Pipeline.arrRef spec0 1)) (?_ : _ = ix2 (0 : Fin 1) d)) ((congrFun (V_v10 m c) _).trans ?_)
  · funext a
    have hi := (index_whole t).1
    match a with
    | ⟨0, _⟩ => exact Fin.ext (by show win0_1.index t 0 * 1 + 1 * 0 = 0; rw [hi]; simp)
    | ⟨1, _⟩ => exact Fin.ext (by show win0_1.index t 1 * 1024 + 1 * d.val = d.val; rw [hi]; simp)
  · pointwise

/-- Branch 0 reaches the call in the narrower format, which rounds nothing here. -/
theorem V_v0 : V m c main_v0 = (truncf .bf16 (m ((c : Thread nD τ).loc main_arg2)) bitsLt_bf16_f32 : FVec Ideal S65536x512 .bf16) := by
  show StableHlo.after hostOps0 (fun b => m (c, b)) main_v0 = _
  after_results_simp

/-- Grid point `t`'s block of branch 0 is its rows `512 t …`. -/
theorem blk2 (t : Fin 128) (r k : Fin 512) :
    iblk m c 2 t (ix2 r k) = m ((c : Thread nD τ).loc main_arg2) (ix2 (⟨512 * t.val + r.val, by omega⟩ : Fin 65536) k) := by
  refine Eq.trans (congrArg (V m c (Pipeline.arrRef spec0 2)) (?_ : _ = ix2 (⟨512 * t.val + r.val, by omega⟩ : Fin 65536) k)) (congrFun (V_v0 m c) _)
  funext a
  have hi := (index_rows t).2.1
  match a with
  | ⟨0, _⟩ => exact Fin.ext (by show win0_2.index t 0 * 512 + 1 * r.val = 512 * t.val + r.val; rw [hi]; simp; omega)
  | ⟨1, _⟩ => exact Fin.ext (by show win0_2.index t 1 * 512 + 1 * k.val = k.val; rw [hi]; simp)

/-- Branch 1 reaches the call in the narrower format, which rounds nothing here. -/
theorem V_v1 : V m c main_v1 = (truncf .bf16 (m ((c : Thread nD τ).loc main_arg3)) bitsLt_bf16_f32 : FVec Ideal S65536x512 .bf16) := by
  show StableHlo.after hostOps0 (fun b => m (c, b)) main_v1 = _
  after_results_simp

/-- Grid point `t`'s block of branch 1 is its rows `512 t …`. -/
theorem blk3 (t : Fin 128) (r k : Fin 512) :
    iblk m c 3 t (ix2 r k) = m ((c : Thread nD τ).loc main_arg3) (ix2 (⟨512 * t.val + r.val, by omega⟩ : Fin 65536) k) := by
  refine Eq.trans (congrArg (V m c (Pipeline.arrRef spec0 3)) (?_ : _ = ix2 (⟨512 * t.val + r.val, by omega⟩ : Fin 65536) k)) (congrFun (V_v1 m c) _)
  funext a
  have hi := (index_rows t).2.2.1
  match a with
  | ⟨0, _⟩ => exact Fin.ext (by show win0_3.index t 0 * 512 + 1 * r.val = 512 * t.val + r.val; rw [hi]; simp; omega)
  | ⟨1, _⟩ => exact Fin.ext (by show win0_3.index t 1 * 512 + 1 * k.val = k.val; rw [hi]; simp)

/-- Branch 2 reaches the call in the narrower format, which rounds nothing here. -/
theorem V_v2 : V m c main_v2 = (truncf .bf16 (m ((c : Thread nD τ).loc main_arg4)) bitsLt_bf16_f32 : FVec Ideal S65536x512 .bf16) := by
  show StableHlo.after hostOps0 (fun b => m (c, b)) main_v2 = _
  after_results_simp

/-- Grid point `t`'s block of branch 2 is its rows `512 t …`. -/
theorem blk4 (t : Fin 128) (r k : Fin 512) :
    iblk m c 4 t (ix2 r k) = m ((c : Thread nD τ).loc main_arg4) (ix2 (⟨512 * t.val + r.val, by omega⟩ : Fin 65536) k) := by
  refine Eq.trans (congrArg (V m c (Pipeline.arrRef spec0 4)) (?_ : _ = ix2 (⟨512 * t.val + r.val, by omega⟩ : Fin 65536) k)) (congrFun (V_v2 m c) _)
  funext a
  have hi := (index_rows t).2.2.2.1
  match a with
  | ⟨0, _⟩ => exact Fin.ext (by show win0_4.index t 0 * 512 + 1 * r.val = 512 * t.val + r.val; rw [hi]; simp; omega)
  | ⟨1, _⟩ => exact Fin.ext (by show win0_4.index t 1 * 512 + 1 * k.val = k.val; rw [hi]; simp)

/-- Branch 3 reaches the call in the narrower format, which rounds nothing here. -/
theorem V_v3 : V m c main_v3 = (truncf .bf16 (m ((c : Thread nD τ).loc main_arg5)) bitsLt_bf16_f32 : FVec Ideal S65536x512 .bf16) := by
  show StableHlo.after hostOps0 (fun b => m (c, b)) main_v3 = _
  after_results_simp

/-- Grid point `t`'s block of branch 3 is its rows `512 t …`. -/
theorem blk5 (t : Fin 128) (r k : Fin 512) :
    iblk m c 5 t (ix2 r k) = m ((c : Thread nD τ).loc main_arg5) (ix2 (⟨512 * t.val + r.val, by omega⟩ : Fin 65536) k) := by
  refine Eq.trans (congrArg (V m c (Pipeline.arrRef spec0 5)) (?_ : _ = ix2 (⟨512 * t.val + r.val, by omega⟩ : Fin 65536) k)) (congrFun (V_v3 m c) _)
  funext a
  have hi := (index_rows t).2.2.2.2.1
  match a with
  | ⟨0, _⟩ => exact Fin.ext (by show win0_5.index t 0 * 512 + 1 * r.val = 512 * t.val + r.val; rw [hi]; simp; omega)
  | ⟨1, _⟩ => exact Fin.ext (by show win0_5.index t 1 * 512 + 1 * k.val = k.val; rw [hi]; simp)

/-- Four matrices stacked. -/
def stack (a0 a1 a2 a3 : FVec Ideal S512x1024 .f32) : FVec Ideal S4x512x1024 .f32 :=
  concatenate S4x512x1024 0 [⟨S1x512x1024, (broadcastInDim S1x512x1024 ![1, 2] bcast_S512x1024_S1x512x1024_1_2 a0 : FVec Ideal S1x512x1024 .f32)⟩, ⟨S1x512x1024, (broadcastInDim S1x512x1024 ![1, 2] bcast_S512x1024_S1x512x1024_1_2 a1 : FVec Ideal S1x512x1024 .f32)⟩, ⟨S1x512x1024, (broadcastInDim S1x512x1024 ![1, 2] bcast_S512x1024_S1x512x1024_1_2 a2 : FVec Ideal S1x512x1024 .f32)⟩, ⟨S1x512x1024, (broadcastInDim S1x512x1024 ![1, 2] bcast_S512x1024_S1x512x1024_1_2 a3 : FVec Ideal S1x512x1024 .f32)⟩] concatenates_S1x512x1024_S1x512x1024_S1x512x1024_S1x512x1024_S4x512x1024_d0

theorem stack_0 (a0 a1 a2 a3 : FVec Ideal S512x1024 .f32) (k : Fin 512) (d : Fin 1024) :
    stack a0 a1 a2 a3 (ix3 0 k d) = a0 (ix2 k d) := by
  unfold stack
  pointwise

theorem stack_1 (a0 a1 a2 a3 : FVec Ideal S512x1024 .f32) (k : Fin 512) (d : Fin 1024) :
    stack a0 a1 a2 a3 (ix3 1 k d) = a1 (ix2 k d) := by
  unfold stack
  pointwise

theorem stack_2 (a0 a1 a2 a3 : FVec Ideal S512x1024 .f32) (k : Fin 512) (d : Fin 1024) :
    stack a0 a1 a2 a3 (ix3 2 k d) = a2 (ix2 k d) := by
  unfold stack
  pointwise

theorem stack_3 (a0 a1 a2 a3 : FVec Ideal S512x1024 .f32) (k : Fin 512) (d : Fin 1024) :
    stack a0 a1 a2 a3 (ix3 3 k d) = a3 (ix2 k d) := by
  unfold stack
  pointwise

/-- The four output weights reach the call stacked, in the narrower format, which rounds nothing here. -/
theorem V_v9 : V m c main_v9 = (truncf .bf16 (stack (m ((c : Thread nD τ).loc main_arg6)) (m ((c : Thread nD τ).loc main_arg7)) (m ((c : Thread nD τ).loc main_arg8)) (m ((c : Thread nD τ).loc main_arg9))) bitsLt_bf16_f32 : FVec Ideal S4x512x1024 .bf16) := by
  show StableHlo.after hostOps0 (fun b => m (c, b)) main_v9 = _
  after_results_simp
  rfl

/-- The block of the stack is the whole stack. -/
theorem blk6 (t : Fin 128) (e : Fin 4) (k : Fin 512) (d : Fin 1024) :
    iblk m c 6 t (ix3 e k d) = stack (m ((c : Thread nD τ).loc main_arg6)) (m ((c : Thread nD τ).loc main_arg7)) (m ((c : Thread nD τ).loc main_arg8)) (m ((c : Thread nD τ).loc main_arg9)) (ix3 e k d) := by
  refine Eq.trans (congrArg (V m c (Pipeline.arrRef spec0 6)) (?_ : _ = ix3 e k d)) (congrFun (V_v9 m c) _)
  funext a
  have hi := (index_whole t).2.2.1
  match a with
  | ⟨0, _⟩ => exact Fin.ext (by show win0_6.index t 0 * 4 + 1 * e.val = e.val; rw [hi]; simp)
  | ⟨1, _⟩ => exact Fin.ext (by show win0_6.index t 1 * 512 + 1 * k.val = k.val; rw [hi]; simp)
  | ⟨2, _⟩ => exact Fin.ext (by show win0_6.index t 2 * 1024 + 1 * d.val = d.val; rw [hi]; simp)

/-- The gates' weights reach the call in the narrower format, which rounds nothing here. -/
theorem V_v11 : V m c main_v11 = (truncf .bf16 (m ((c : Thread nD τ).loc main_arg10)) bitsLt_bf16_f32 : FVec Ideal S4x1024x1024 .bf16) := by
  show StableHlo.after hostOps0 (fun b => m (c, b)) main_v11 = _
  after_results_simp

/-- The block of the gates' weights is the whole array. -/
theorem blk7 (t : Fin 128) (e : Fin 4) (k d : Fin 1024) : iblk m c 7 t (ix3 e k d) = m ((c : Thread nD τ).loc main_arg10) (ix3 e k d) := by
  refine Eq.trans (congrArg (V m c (Pipeline.arrRef spec0 7)) (?_ : _ = ix3 e k d)) (congrFun (V_v11 m c) _)
  funext a
  have hi := (index_whole t).2.2.2.1
  match a with
  | ⟨0, _⟩ => exact Fin.ext (by show win0_7.index t 0 * 4 + 1 * e.val = e.val; rw [hi]; simp)
  | ⟨1, _⟩ => exact Fin.ext (by show win0_7.index t 1 * 1024 + 1 * k.val = k.val; rw [hi]; simp)
  | ⟨2, _⟩ => exact Fin.ext (by show win0_7.index t 2 * 1024 + 1 * d.val = d.val; rw [hi]; simp)

/-- The gates' biases reach the call as four matrices of one row. -/
theorem V_v12 : V m c main_v12 = (broadcastInDim S4x1x1024 ![0, 2] bcast_S4x1024_S4x1x1024_0_2 (m ((c : Thread nD τ).loc main_arg11)) : FVec Ideal S4x1x1024 .f32) := by
  show StableHlo.after hostOps0 (fun b => m (c, b)) main_v12 = _
  after_results_simp

/-- The block of the gates' biases is the whole array. -/
theorem blk8 (t : Fin 128) (e : Fin 4) (d : Fin 1024) : iblk m c 8 t (ix3 e 0 d) = m ((c : Thread nD τ).loc main_arg11) (ix2 e d) := by
  refine Eq.trans (congrArg (V m c (Pipeline.arrRef spec0 8)) (?_ : _ = ix3 e (0 : Fin 1) d)) ((congrFun (V_v12 m c) _).trans ?_)
  · funext a
    have hi := (index_whole t).2.2.2.2
    match a with
    | ⟨0, _⟩ => exact Fin.ext (by show win0_8.index t 0 * 4 + 1 * e.val = e.val; rw [hi]; simp)
    | ⟨1, _⟩ => exact Fin.ext (by show win0_8.index t 1 * 1 + 1 * 0 = 0; rw [hi]; simp)
    | ⟨2, _⟩ => exact Fin.ext (by show win0_8.index t 2 * 1024 + 1 * d.val = d.val; rw [hi]; simp)
  · pointwise

/-- The last projection reaches the call in the narrower format, which rounds nothing here. -/
theorem V_v13 : V m c main_v13 = (truncf .bf16 (m ((c : Thread nD τ).loc main_arg12)) bitsLt_bf16_f32 : FVec Ideal S1024x1024 .bf16) := by
  show StableHlo.after hostOps0 (fun b => m (c, b)) main_v13 = _
  after_results_simp

/-- The block of the last projection is the whole matrix. -/
theorem blk9 (t : Fin 128) (k d : Fin 1024) : iblk m c 9 t (ix2 k d) = m ((c : Thread nD τ).loc main_arg12) (ix2 k d) := by
  refine Eq.trans (congrArg (V m c (Pipeline.arrRef spec0 9)) (?_ : _ = ix2 k d)) (congrFun (V_v13 m c) _)
  funext a
  have hi := (index_whole t).2.1
  match a with
  | ⟨0, _⟩ => exact Fin.ext (by show win0_9.index t 0 * 1024 + 1 * k.val = k.val; rw [hi]; simp)
  | ⟨1, _⟩ => exact Fin.ext (by show win0_9.index t 1 * 1024 + 1 * d.val = d.val; rw [hi]; simp)

/-- The kernel's result at a row and a column is the mixing step of that row. -/
theorem array_apply (R : Fin 65536) (d : Fin 1024) :
    (dats m 0 c).arrAt 10 cfg0.N (ix2 R d)
      = Layer.mix (fun k => m ((c : Thread nD τ).loc main_arg0) (ix2 R k)) (fun k => m ((c : Thread nD τ).loc main_arg1) (ix1 k))
          (fun k => m ((c : Thread nD τ).loc main_arg2) (ix2 R k)) (fun k => m ((c : Thread nD τ).loc main_arg3) (ix2 R k))
          (fun k => m ((c : Thread nD τ).loc main_arg4) (ix2 R k)) (fun k => m ((c : Thread nD τ).loc main_arg5) (ix2 R k))
          (fun k f => m ((c : Thread nD τ).loc main_arg6) (ix2 k f)) (fun k f => m ((c : Thread nD τ).loc main_arg7) (ix2 k f))
          (fun k f => m ((c : Thread nD τ).loc main_arg8) (ix2 k f)) (fun k f => m ((c : Thread nD τ).loc main_arg9) (ix2 k f))
          (fun b k f => m ((c : Thread nD τ).loc main_arg10) (ix3 b k f)) (fun b f => m ((c : Thread nD τ).loc main_arg11) (ix2 b f))
          (fun k f => m ((c : Thread nD τ).loc main_arg12) (ix2 k f)) d := by
  obtain ⟨t, r, rfl⟩ : ∃ (t : Fin 128) (r : Fin 512), R = ⟨512 * t.val + r.val, by omega⟩ :=
    ⟨⟨R.val / 512, by omega⟩, ⟨R.val % 512, by omega⟩, Fin.ext (by show R.val = 512 * (R.val / 512) + R.val % 512; omega)⟩
  rw [final_apply]
  refine (out_apply _ _ _ _ _ _ _ _ _ _ r d).trans ?_
  have e0 := fun k => blk0 m c t r k
  have e1 := fun k => blk1 m c t k
  have e2 := fun k => blk2 m c t r k
  have e3 := fun k => blk3 m c t r k
  have e4 := fun k => blk4 m c t r k
  have e5 := fun k => blk5 m c t r k
  have s0 := fun k f => (blk6 m c t 0 k f).trans (stack_0 _ _ _ _ k f)
  have s1 := fun k f => (blk6 m c t 1 k f).trans (stack_1 _ _ _ _ k f)
  have s2 := fun k f => (blk6 m c t 2 k f).trans (stack_2 _ _ _ _ k f)
  have s3 := fun k f => (blk6 m c t 3 k f).trans (stack_3 _ _ _ _ k f)
  have e7 := fun e k f => blk7 m c t e k f
  have e8 := fun e f => blk8 m c t e f
  have e9 := fun k f => blk9 m c t k f
  simp only [e0, e1, e2, e3, e4, e5, s0, s1, s2, s3, e7, e8, e9]

end Cert.Kernel4Ideal.Body

end
-- ==== Proof.Mix.Host.lean ====
/-
  The mixing reference's result, entry by entry: the mixing step of the same row of its arguments.
-/
module

public import proofs.«01_k».proof.Proof.Mix.Plain
public import proofs.«01_k».proof.Proof.Gen.Reference4Ideal.Run

@[expose] public section

set_option maxRecDepth 16384

noncomputable section

namespace Cert.Reference4Ideal.Body

open Cert.Reference4Ideal Cert.Reference4Ideal.Gen Cert.Reference4Ideal.Value Idealize.ShloMosaic Idealize.ShloMosaic.TcCoe

/-- The normalised tokens, as an array. -/
def normed (h : FVec Ideal S65536x1024 .f32) (g : FVec Ideal S1024 .f32) : FVec Ideal S65536x1024 .f32 :=
  mulf (mulf h (broadcastInDim S65536x1024 ![0, 1] bcast_S65536x1_S65536x1024_0_1 (Host.rsqrt (addf (Host.divf (broadcastInDim S65536x1 ![0] bcast_S65536_S65536x1_0 (Host.reduceAdd (mulf h h) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

/-- A gate: the logistic function of the tokens through its weights, plus its bias. -/
def gate (x : FVec Ideal S65536x1024 .f32) (w : FVec Ideal S1024x1024 .f32) (b : FVec Ideal S1024 .f32) : FVec Ideal S65536x1024 .f32 :=
  Host.divf (broadcastInDim S65536x1024 ![] bcast_S_S65536x1024 (constant S_ .f32 0x3F800000#32)) (addf (broadcastInDim S65536x1024 ![] bcast_S_S65536x1024 (constant S_ .f32 0x3F800000#32)) (Host.exp (Host.negf (addf (Host.dotGeneral dot_S65536x1024_S1024x1024_S65536x1024_1_0_0_1_n_n none x w) (broadcastInDim S65536x1024 ![0, 1] bcast_S1x1024_S65536x1024_0_1 (broadcastInDim S1x1024 ![1] bcast_S1024_S1x1024_1 b))))))

/-- A gated branch. -/
def gatedBranch (g : FVec Ideal S65536x1024 .f32) (b : FVec Ideal S65536x512 .f32) (w : FVec Ideal S512x1024 .f32) : FVec Ideal S65536x1024 .f32 :=
  mulf g (Host.dotGeneral dot_S65536x512_S512x1024_S65536x1024_1_0_0_1_n_n none b w)

/-- The sum of four branches, from zero. -/
def total (g0 g1 g2 g3 : FVec Ideal S65536x1024 .f32) : FVec Ideal S65536x1024 .f32 :=
  addf (addf (addf (addf (broadcastInDim S65536x1024 ![] bcast_S_S65536x1024 (constant S_ .f32 0x00000000#32)) g0) g1) g2) g3

/-- The tokens plus the projected sum. -/
def added (h s : FVec Ideal S65536x1024 .f32) (w : FVec Ideal S1024x1024 .f32) : FVec Ideal S65536x1024 .f32 :=
  addf h (Host.dotGeneral dot_S65536x1024_S1024x1024_S65536x1024_1_0_0_1_n_n none s w)

/-- Matrix 0 of the gates' weights. -/
def slab0 (w : FVec Ideal S4x1024x1024 .f32) : FVec Ideal S1024x1024 .f32 :=
  shapeCast S1024x1024 (extractStridedSlice S1x1024x1024 ![0, 0, 0] w slices_S4x1024x1024_S1x1024x1024_0_0_0) shapeCasts_S1x1024x1024_S1024x1024

/-- Row 0 of the gates' biases. -/
def bias0 (b : FVec Ideal S4x1024 .f32) : FVec Ideal S1024 .f32 :=
  shapeCast S1024 (extractStridedSlice S1x1024 ![0, 0] b slices_S4x1024_S1x1024_0_0) shapeCasts_S1x1024_S1024

theorem slab0_apply (w : FVec Ideal S4x1024x1024 .f32) (k d : Fin 1024) : slab0 w (ix2 k d) = w (ix3 0 k d) := by
  unfold slab0
  pointwise

theorem bias0_apply (b : FVec Ideal S4x1024 .f32) (d : Fin 1024) : bias0 b (ix1 d) = b (ix2 0 d) := by
  unfold bias0
  pointwise

/-- Matrix 1 of the gates' weights. -/
def slab1 (w : FVec Ideal S4x1024x1024 .f32) : FVec Ideal S1024x1024 .f32 :=
  shapeCast S1024x1024 (extractStridedSlice S1x1024x1024 ![1, 0, 0] w slices_S4x1024x1024_S1x1024x1024_1_0_0) shapeCasts_S1x1024x1024_S1024x1024

/-- Row 1 of the gates' biases. -/
def bias1 (b : FVec Ideal S4x1024 .f32) : FVec Ideal S1024 .f32 :=
  shapeCast S1024 (extractStridedSlice S1x1024 ![1, 0] b slices_S4x1024_S1x1024_1_0) shapeCasts_S1x1024_S1024

theorem slab1_apply (w : FVec Ideal S4x1024x1024 .f32) (k d : Fin 1024) : slab1 w (ix2 k d) = w (ix3 1 k d) := by
  unfold slab1
  pointwise

theorem bias1_apply (b : FVec Ideal S4x1024 .f32) (d : Fin 1024) : bias1 b (ix1 d) = b (ix2 1 d) := by
  unfold bias1
  pointwise

/-- Matrix 2 of the gates' weights. -/
def slab2 (w : FVec Ideal S4x1024x1024 .f32) : FVec Ideal S1024x1024 .f32 :=
  shapeCast S1024x1024 (extractStridedSlice S1x1024x1024 ![2, 0, 0] w slices_S4x1024x1024_S1x1024x1024_2_0_0) shapeCasts_S1x1024x1024_S1024x1024

/-- Row 2 of the gates' biases. -/
def bias2 (b : FVec Ideal S4x1024 .f32) : FVec Ideal S1024 .f32 :=
  shapeCast S1024 (extractStridedSlice S1x1024 ![2, 0] b slices_S4x1024_S1x1024_2_0) shapeCasts_S1x1024_S1024

theorem slab2_apply (w : FVec Ideal S4x1024x1024 .f32) (k d : Fin 1024) : slab2 w (ix2 k d) = w (ix3 2 k d) := by
  unfold slab2
  pointwise

theorem bias2_apply (b : FVec Ideal S4x1024 .f32) (d : Fin 1024) : bias2 b (ix1 d) = b (ix2 2 d) := by
  unfold bias2
  pointwise

/-- Matrix 3 of the gates' weights. -/
def slab3 (w : FVec Ideal S4x1024x1024 .f32) : FVec Ideal S1024x1024 .f32 :=
  shapeCast S1024x1024 (extractStridedSlice S1x1024x1024 ![3, 0, 0] w slices_S4x1024x1024_S1x1024x1024_3_0_0) shapeCasts_S1x1024x1024_S1024x1024

/-- Row 3 of the gates' biases. -/
def bias3 (b : FVec Ideal S4x1024 .f32) : FVec Ideal S1024 .f32 :=
  shapeCast S1024 (extractStridedSlice S1x1024 ![3, 0] b slices_S4x1024_S1x1024_3_0) shapeCasts_S1x1024_S1024

theorem slab3_apply (w : FVec Ideal S4x1024x1024 .f32) (k d : Fin 1024) : slab3 w (ix2 k d) = w (ix3 3 k d) := by
  unfold slab3
  pointwise

theorem bias3_apply (b : FVec Ideal S4x1024 .f32) (d : Fin 1024) : bias3 b (ix1 d) = b (ix2 3 d) := by
  unfold bias3
  pointwise

theorem normed_apply (h : FVec Ideal S65536x1024 .f32) (g : FVec Ideal S1024 .f32) (R : Fin 65536) (d : Fin 1024) :
    normed h g (ix2 R d) = Layer.unit (fun k => h (ix2 R k)) (fun k => g (ix1 k)) d := by
  unfold normed Layer.unit
  pointwise

theorem gate_apply (x : FVec Ideal S65536x1024 .f32) (w : FVec Ideal S1024x1024 .f32) (b : FVec Ideal S1024 .f32) (R : Fin 65536) (d : Fin 1024) :
    (gate x w b (ix2 R d) : EReal) = Ideal.logistic ((∑ k : Fin 1024, (x (ix2 R k) : EReal) * w (ix2 k d)) + b (ix1 d)) := by
  unfold gate Ideal.logistic
  pointwise

theorem gatedBranch_apply (g : FVec Ideal S65536x1024 .f32) (b : FVec Ideal S65536x512 .f32) (w : FVec Ideal S512x1024 .f32) (R : Fin 65536) (d : Fin 1024) :
    (gatedBranch g b w (ix2 R d) : EReal) = g (ix2 R d) * ∑ k : Fin 512, (b (ix2 R k) : EReal) * w (ix2 k d) := by
  unfold gatedBranch
  pointwise

theorem total_apply (g0 g1 g2 g3 : FVec Ideal S65536x1024 .f32) (R : Fin 65536) (d : Fin 1024) :
    (total g0 g1 g2 g3 (ix2 R d) : EReal) = g0 (ix2 R d) + g1 (ix2 R d) + g2 (ix2 R d) + g3 (ix2 R d) := by
  unfold total
  pointwise

theorem added_apply (h s : FVec Ideal S65536x1024 .f32) (w : FVec Ideal S1024x1024 .f32) (R : Fin 65536) (d : Fin 1024) :
    (added h s w (ix2 R d) : EReal) = h (ix2 R d) + ∑ k : Fin 1024, (s (ix2 R k) : EReal) * w (ix2 k d) := by
  unfold added
  pointwise

/-- The reference's term, from any arrays. -/
def whole (x0 : FVec Ideal S65536x1024 .f32) (x1 : FVec Ideal S1024 .f32) (x2 x3 x4 x5 : FVec Ideal S65536x512 .f32)
    (x6 x7 x8 x9 : FVec Ideal S512x1024 .f32) (x10 : FVec Ideal S4x1024x1024 .f32) (x11 : FVec Ideal S4x1024 .f32) (x12 : FVec Ideal S1024x1024 .f32) :
    FVec Ideal S65536x1024 .f32 :=
  added x0 (total (gatedBranch (gate (normed x0 x1) (slab0 x10) (bias0 x11)) x2 x6) (gatedBranch (gate (normed x0 x1) (slab1 x10) (bias1 x11)) x3 x7)
    (gatedBranch (gate (normed x0 x1) (slab2 x10) (bias2 x11)) x4 x8) (gatedBranch (gate (normed x0 x1) (slab3 x10) (bias3 x11)) x5 x9)) x12

variable (m : (ℓ : Loc nD τ sig) → Buf (Elt Ideal) ℓ) (c : Dev nD)

/-- The reference's result is made of these parts. -/
theorem result_eq : (res_main_v83 m c : FVec Ideal S65536x1024 .f32)
      = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold res_main_v83 whole added total gatedBranch gate slab0 slab1 slab2 slab3 bias0 bias1 bias2 bias3 normed
  rfl

/-- The whole result, at a row and a column: the mixing step of that row. -/
theorem result_apply (x0 : FVec Ideal S65536x1024 .f32) (x1 : FVec Ideal S1024 .f32) (x2 x3 x4 x5 : FVec Ideal S65536x512 .f32)
    (x6 x7 x8 x9 : FVec Ideal S512x1024 .f32) (x10 : FVec Ideal S4x1024x1024 .f32) (x11 : FVec Ideal S4x1024 .f32) (x12 : FVec Ideal S1024x1024 .f32)
    (R : Fin 65536) (d : Fin 1024) :
    whole x0 x1 x2 x3 x4 x5 x6 x7 x8 x9 x10 x11 x12 (ix2 R d)
      = Layer.mix (fun k => x0 (ix2 R k)) (fun k => x1 (ix1 k)) (fun k => x2 (ix2 R k)) (fun k => x3 (ix2 R k)) (fun k => x4 (ix2 R k)) (fun k => x5 (ix2 R k))
          (fun k f => x6 (ix2 k f)) (fun k f => x7 (ix2 k f)) (fun k f => x8 (ix2 k f)) (fun k f => x9 (ix2 k f))
          (fun b k f => x10 (ix3 b k f)) (fun b f => x11 (ix2 b f)) (fun k f => x12 (ix2 k f)) d := by
  unfold whole
  refine (added_apply _ _ _ R d).trans ?_
  unfold Layer.mix Layer.branch
  simp only [total_apply, gatedBranch_apply, gate_apply, normed_apply, slab0_apply, slab1_apply, slab2_apply, slab3_apply,
    bias0_apply, bias1_apply, bias2_apply, bias3_apply]

end Cert.Reference4Ideal.Body

end
-- ==== Proof.Mix.Claims.lean ====
/-
  The mixing call's claims: the reference's frame, and the equality of the two results.
-/
module

public import proofs.«01_k».proof.Defs
public import proofs.«01_k».proof.Proof.Mix.Array
public import proofs.«01_k».proof.Proof.Mix.Host
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The mixing reference runs to its end and leaves its arguments as they were. -/
theorem mix_host_frame : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run m ρ)

/-- From equal arguments the mixing kernel and its reference end with equal results. -/
theorem mix_algebraic : Cert.algebraic_Kernel4Ideal_Reference4Ideal (hKernel4Ideal := Cert.Kernel4Ideal.Gen.facts)
    (hReference4Ideal := Cert.Reference4Ideal.Gen.facts) := by
  intro m ρ m' ρ' _ hm
  refine ⟨fun c => (Cert.Kernel4Ideal.Gen.dats m 0 c).arrAt 10 Cert.Kernel4Ideal.cfg0.N, Cert.Kernel4Ideal.Value.run_blocks m ρ,
    (θ_run _ _ _).mono (fun r h c => ⟨(h c).1.trans ?_, (h c).2⟩) (Cert.Reference4Ideal.Value.run m' ρ')⟩
  obtain ⟨h0, h1, h2, h3, h4, h5, h6, h7, h8, h9, h10, h11, h12⟩ := hm c
  refine (Cert.Reference4Ideal.Body.result_eq m' c).trans ?_
  rw [h0, h1, h2, h3, h4, h5, h6, h7, h8, h9, h10, h11, h12]
  funext i
  obtain ⟨R, d, rfl⟩ : ∃ (R : Fin 65536) (d : Fin 1024), i = ix2 R d := ⟨i 0, i 1, ValueIdx.eq_ix2 i⟩
  exact (Cert.Reference4Ideal.Body.result_apply _ _ _ _ _ _ _ _ _ _ _ _ _ R d).trans (Cert.Kernel4Ideal.Body.array_apply m c R d).symm

end Cert.Proof

end
-- ==== Proof.Norm.Rows.lean ====
/-
  The last normalisation: the kernel's output array and the reference's result, entry by entry, are the normalised rows.
-/
module

public import proofs.«01_k».proof.Proof.Layer.Plain
public import proofs.«01_k».proof.Proof.Moe.Block
public import proofs.«01_k».proof.Proof.Gen.Kernel5Ideal.Value
public import proofs.«01_k».proof.Proof.Gen.Reference5Ideal.Run

@[expose] public section

set_option maxRecDepth 16384

noncomputable section

namespace Cert.Kernel5Ideal.Body

open Cert.Kernel5Ideal Cert.Kernel5Ideal.Gen Idealize.ShloMosaic Idealize.ShloMosaic.TcCoe
open Cert.Kernel3Ideal.Body (zero2)

/-- The body at a row and a column. -/
theorem out_apply (h : Vec Ideal S1024x1024 .f32) (g : Vec Ideal S1x1024 .f32) (r d : Fin 1024) :
    out0_2 h g (ix2 r d) = Layer.unit (fun k => h (ix2 r k)) (fun k => g (ix2 0 k)) d := by
  unfold out0_2
  rw [View.canon_unit_zero zero2]
  have l0 : View.ld h r0_0 = h := View.ld_unit_zero zero2 _ _
  have l1 : View.ld g r0_1 = g := View.ld_unit_zero zero2 _ _
  rw [l0, l1]
  unfold k0_pay1
  simp only [shapeCast_self]
  pointwise [Layer.unit]

variable (m : (ℓ : Loc nD τ sig) → Buf (Elt Ideal) ℓ) (c : Dev nD)

/-- The blocks at each grid point. -/
theorem index_rows : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The result array at row `1024 t + r` is what grid point `t`'s body stores at row `r`. -/
theorem final_apply (t : Fin 64) (r d : Fin 1024) :
    (dats m 0 c).arrAt 2 cfg0.N (ix2 (⟨1024 * t.val + r.val, by omega⟩ : Fin 65536) d) = out0_2 (iblk m c 0 t) (iblk m c 1 t) (ix2 r d) := by
  have h := congrFun ((Value.blocks2 m c t (flush0_2 t)).trans (Value.flushed2 m c t)) (ix2 r d)
  refine Eq.trans (congrArg ((dats m 0 c).arrAt 2 cfg0.N) ?_) h
  funext a
  have hi := (index_rows t).2.2
  match a with
  | ⟨0, _⟩ => exact Fin.ext (by show 1024 * t.val + r.val = win0_2.index t 0 * 1024 + 1 * r.val; rw [hi]; simp; omega)
  | ⟨1, _⟩ => exact Fin.ext (by show d.val = win0_2.index t 1 * 1024 + 1 * d.val; rw [hi]; simp)

/-- Grid point `t`'s block of the rows is rows `1024 t …` of the first argument. -/
theorem blk0 (t : Fin 64) (r d : Fin 1024) :
    iblk m c 0 t (ix2 r d) = m ((c : Thread nD τ).loc main_arg0) (ix2 (⟨1024 * t.val + r.val, by omega⟩ : Fin 65536) d) := by
  refine Eq.trans (congrArg (V m c (Pipeline.arrRef spec0 0)) (?_ : _ = ix2 (⟨1024 * t.val + r.val, by omega⟩ : Fin 65536) d)) (congrFun (V_main_arg0 m c) _)
  funext a
  have hi := (index_rows t).1
  match a with
  | ⟨0, _⟩ => exact Fin.ext (by show win0_0.index t 0 * 1024 + 1 * r.val = 1024 * t.val + r.val; rw [hi]; simp; omega)
  | ⟨1, _⟩ => exact Fin.ext (by show win0_0.index t 1 * 1024 + 1 * d.val = d.val; rw [hi]; simp)

/-- The gain reaches the call as a matrix of one row. -/
theorem V_v0 : V m c main_v0 = (broadcastInDim S1x1024 ![1] bcast_S1024_S1x1024_1 (m ((c : Thread nD τ).loc main_arg1)) : FVec Ideal S1x1024 .f32) := by
  show StableHlo.after hostOps0 (fun b => m (c, b)) main_v0 = _
  after_results_simp

/-- The gain's block is the gain. -/
theorem blk1 (t : Fin 64) (d : Fin 1024) : iblk m c 1 t (ix2 0 d) = m ((c : Thread nD τ).loc main_arg1) (ix1 d) := by
  refine Eq.trans (congrArg (V m c (Pipeline.arrRef spec0 1)) (?_ : _ = ix2 (0 : Fin 1) d)) ((congrFun (V_v0 m c) _).trans ?_)
  · funext a
    have hi := (index_rows t).2.1
    match a with
    | ⟨0, _⟩ => exact Fin.ext (by show win0_1.index t 0 * 1 + 1 * 0 = 0; rw [hi]; simp)
    | ⟨1, _⟩ => exact Fin.ext (by show win0_1.index t 1 * 1024 + 1 * d.val = d.val; rw [hi]; simp)
  · pointwise

/-- The kernel's result at a row and a column is the normalised row's entry. -/
theorem array_apply (R : Fin 65536) (d : Fin 1024) :
    (dats m 0 c).arrAt 2 cfg0.N (ix2 R d)
      = Layer.unit (fun k => m ((c : Thread nD τ).loc main_arg0) (ix2 R k)) (fun k => m ((c : Thread nD τ).loc main_arg1) (ix1 k)) d := by
  obtain ⟨t, r, rfl⟩ : ∃ (t : Fin 64) (r : Fin 1024), R = ⟨1024 * t.val + r.val, by omega⟩ :=
    ⟨⟨R.val / 1024, by omega⟩, ⟨R.val % 1024, by omega⟩, Fin.ext (by show R.val = 1024 * (R.val / 1024) + R.val % 1024; omega)⟩
  rw [final_apply]
  refine (out_apply _ _ r d).trans ?_
  have e0 := fun k => blk0 m c t r k
  have e1 := fun k => blk1 m c t k
  simp only [e0, e1]

end Cert.Kernel5Ideal.Body

namespace Cert.Reference5Ideal.Body

open Cert.Reference5Ideal Cert.Reference5Ideal.Gen Cert.Reference5Ideal.Value Idealize.ShloMosaic Idealize.ShloMosaic.TcCoe

/-- The normalised tokens, as an array. -/
def normed (h : FVec Ideal S65536x1024 .f32) (g : FVec Ideal S1024 .f32) : FVec Ideal S65536x1024 .f32 :=
  mulf (mulf h (broadcastInDim S65536x1024 ![0, 1] bcast_S65536x1_S65536x1024_0_1 (Host.rsqrt (addf (Host.divf (broadcastInDim S65536x1 ![0] bcast_S65536_S65536x1_0 (Host.reduceAdd (mulf h h) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

theorem normed_apply (h : FVec Ideal S65536x1024 .f32) (g : FVec Ideal S1024 .f32) (R : Fin 65536) (d : Fin 1024) :
    normed h g (ix2 R d) = Layer.unit (fun k => h (ix2 R k)) (fun k => g (ix1 k)) d := by
  unfold normed Layer.unit
  pointwise

end Cert.Reference5Ideal.Body

end
-- ==== Proof.Norm.Claims.lean ====
/-
  The last normalisation's claims: the reference's frame, and the equality of the two results.
-/
module

public import proofs.«01_k».proof.Defs
public import proofs.«01_k».proof.Proof.Norm.Rows
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The normalising reference runs to its end and leaves its arguments as they were. -/
theorem norm_host_frame : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- From equal arguments the normalising kernel and its reference end with equal results. -/
theorem norm_algebraic : Cert.algebraic_Kernel5Ideal_Reference5Ideal (hKernel5Ideal := Cert.Kernel5Ideal.Gen.facts)
    (hReference5Ideal := Cert.Reference5Ideal.Gen.facts) := by
  intro m ρ m' ρ' _ hm
  refine ⟨fun c => (Cert.Kernel5Ideal.Gen.dats m 0 c).arrAt 2 Cert.Kernel5Ideal.cfg0.N, Cert.Kernel5Ideal.Value.run_blocks m ρ,
    (θ_run _ _ _).mono (fun r h c => ⟨(h c).1.trans ?_, (h c).2⟩) (Cert.Reference5Ideal.Value.run m' ρ')⟩
  obtain ⟨h0, h1⟩ := hm c
  rw [h0, h1]
  funext i
  obtain ⟨R, d, rfl⟩ : ∃ (R : Fin 65536) (d : Fin 1024), i = ix2 R d := ⟨i 0, i 1, ValueIdx.eq_ix2 i⟩
  exact (Cert.Reference5Ideal.Body.normed_apply _ _ R d).trans (Cert.Kernel5Ideal.Body.array_apply m c R d).symm

end Cert.Proof

end
-- ==== Proof.Proj.Plain.lean ====
/-
  The mathematics of the input projection: a normalised token row times one column of a weight.
-/
module

public import proofs.«01_k».proof.Proof.Layer.Plain

@[expose] public section

noncomputable section

namespace Layer

/-- A normalised row times a column. -/
def proj (h g w : Fin 1024 → EReal) : EReal := ∑ k, unit h g k * w k

/-- Times a column of zeros it is zero. -/
theorem proj_zero (h g : Fin 1024 → EReal) : proj h g (fun _ => 0) = 0 :=
  Finset.sum_eq_zero fun _ _ => mul_zero _

end Layer

end
-- ==== Proof.Proj.Block.lean ====
/-
  The input projection's body: every column piece that a grid point stores is a product of its normalised rows with columns of
  the reordered weight.
-/
module

public import proofs.«01_k».proof.Proof.Layer.Plain
public import proofs.«01_k».proof.Proof.Moe.Points
public import proofs.«01_k».proof.Proof.Moe.Block
public import proofs.«01_k».proof.Proof.Gen.Kernel6Ideal.Value

@[expose] public section

set_option maxRecDepth 16384

noncomputable section

namespace Cert.Kernel6Ideal.Body

open Cert.Kernel6Ideal Cert.Kernel6Ideal.Gen Idealize.ShloMosaic Idealize.ShloMosaic.TcCoe
open Cert.Kernel3Ideal.Body (mm whole_ld zero2)

/-- The normalised rows. -/
theorem pay6_apply (h : Vec Ideal S256x1024 .f32) (g : Vec Ideal S1x1024 .f32) (r : Fin 256) (d : Fin 1024) :
    k0_pay6 h g (ix2 r d) = Layer.unit (fun k => h (ix2 r k)) (fun k => g (ix2 0 k)) d := by
  unfold k0_pay6
  simp only [shapeCast_self]
  pointwise [Layer.unit]

theorem pay7_apply (h : Vec Ideal S256x1024 .f32) (g : Vec Ideal S1x1024 .f32) (w : Vec Ideal S1024x512 .bf16) (r : Fin 256) (j : Fin 512) :
    (k0_pay7 h g w (ix2 r j) : EReal) = ∑ k : Fin 1024, (k0_pay6 h g (ix2 r k) : EReal) * w (ix2 k j) := by
  unfold k0_pay7
  simp only [shapeCast_self]
  exact mm (φ₁ := .bf16) (φ₂ := .bf16) (M := 256) (K := 1024) (N := 512) none _ rfl _ _ _ _

theorem pay8_apply (h : Vec Ideal S256x1024 .f32) (g : Vec Ideal S1x1024 .f32) (w : Vec Ideal S1024x512 .bf16) (r : Fin 256) (j : Fin 512) :
    (k0_pay8 h g w (ix2 r j) : EReal) = ∑ k : Fin 1024, (k0_pay6 h g (ix2 r k) : EReal) * w (ix2 k j) := by
  unfold k0_pay8
  simp only [shapeCast_self]
  exact mm (φ₁ := .bf16) (φ₂ := .bf16) (M := 256) (K := 1024) (N := 512) none _ rfl _ _ _ _

theorem pay9_apply (h : Vec Ideal S256x1024 .f32) (g : Vec Ideal S1x1024 .f32) (w : Vec Ideal S1024x512 .bf16) (r : Fin 256) (j : Fin 512) :
    (k0_pay9 h g w (ix2 r j) : EReal) = ∑ k : Fin 1024, (k0_pay6 h g (ix2 r k) : EReal) * w (ix2 k j) := by
  unfold k0_pay9
  simp only [shapeCast_self]
  exact mm (φ₁ := .bf16) (φ₂ := .bf16) (M := 256) (K := 1024) (N := 512) none _ rfl _ _ _ _

theorem pay10_apply (x : FVec Ideal S256x1024 .bf16) (w : Vec Ideal S1024x512 .bf16) (r : Fin 256) (j : Fin 512) :
    (k0_pay10 x w (ix2 r j) : EReal) = ∑ k : Fin 1024, (x (ix2 r k) : EReal) * w (ix2 k j) := by
  unfold k0_pay10
  simp only [shapeCast_self]
  exact mm (φ₁ := .bf16) (φ₂ := .bf16) (M := 256) (K := 1024) (N := 512) none _ rfl _ _ _ _

theorem pay11_apply (x : FVec Ideal S256x1024 .bf16) (w : Vec Ideal S1024x512 .bf16) (r : Fin 256) (j : Fin 512) :
    (k0_pay11 x w (ix2 r j) : EReal) = ∑ k : Fin 1024, (x (ix2 r k) : EReal) * w (ix2 k j) := by
  unfold k0_pay11
  simp only [shapeCast_self]
  exact mm (φ₁ := .bf16) (φ₂ := .bf16) (M := 256) (K := 1024) (N := 512) none _ rfl _ _ _ _

theorem pay12_apply (x : FVec Ideal S256x1024 .bf16) (w : Vec Ideal S1024x512 .bf16) (r : Fin 256) (j : Fin 512) :
    (k0_pay12 x w (ix2 r j) : EReal) = ∑ k : Fin 1024, (x (ix2 r k) : EReal) * w (ix2 k j) := by
  unfold k0_pay12
  simp only [shapeCast_self]
  exact mm (φ₁ := .bf16) (φ₂ := .bf16) (M := 256) (K := 1024) (N := 512) none _ rfl _ _ _ _

theorem pay13_apply (x : FVec Ideal S256x1024 .bf16) (w : Vec Ideal S1024x512 .bf16) (r : Fin 256) (j : Fin 512) :
    (k0_pay13 x w (ix2 r j) : EReal) = ∑ k : Fin 1024, (x (ix2 r k) : EReal) * w (ix2 k j) := by
  unfold k0_pay13
  simp only [shapeCast_self]
  exact mm (φ₁ := .bf16) (φ₂ := .bf16) (M := 256) (K := 1024) (N := 512) none _ rfl _ _ _ _

theorem pay14_apply (x : FVec Ideal S256x1024 .bf16) (w : Vec Ideal S1024x512 .bf16) (r : Fin 256) (j : Fin 512) :
    (k0_pay14 x w (ix2 r j) : EReal) = ∑ k : Fin 1024, (x (ix2 r k) : EReal) * w (ix2 k j) := by
  unfold k0_pay14
  simp only [shapeCast_self]
  exact mm (φ₁ := .bf16) (φ₂ := .bf16) (M := 256) (K := 1024) (N := 512) none _ rfl _ _ _ _

theorem pay15_apply (x : FVec Ideal S256x1024 .bf16) (w : Vec Ideal S1024x512 .bf16) (r : Fin 256) (j : Fin 512) :
    (k0_pay15 x w (ix2 r j) : EReal) = ∑ k : Fin 1024, (x (ix2 r k) : EReal) * w (ix2 k j) := by
  unfold k0_pay15
  simp only [shapeCast_self]
  exact mm (φ₁ := .bf16) (φ₂ := .bf16) (M := 256) (K := 1024) (N := 512) none _ rfl _ _ _ _

theorem pay16_apply (x : FVec Ideal S256x1024 .bf16) (w : Vec Ideal S1024x512 .bf16) (r : Fin 256) (j : Fin 512) :
    (k0_pay16 x w (ix2 r j) : EReal) = ∑ k : Fin 1024, (x (ix2 r k) : EReal) * w (ix2 k j) := by
  unfold k0_pay16
  simp only [shapeCast_self]
  exact mm (φ₁ := .bf16) (φ₂ := .bf16) (M := 256) (K := 1024) (N := 512) none _ rfl _ _ _ _

theorem pay17_apply (x : FVec Ideal S256x1024 .bf16) (w : Vec Ideal S1024x512 .bf16) (r : Fin 256) (j : Fin 512) :
    (k0_pay17 x w (ix2 r j) : EReal) = ∑ k : Fin 1024, (x (ix2 r k) : EReal) * w (ix2 k j) := by
  unfold k0_pay17
  simp only [shapeCast_self]
  exact mm (φ₁ := .bf16) (φ₂ := .bf16) (M := 256) (K := 1024) (N := 512) none _ rfl _ _ _ _

theorem pay18_apply (x : FVec Ideal S256x1024 .bf16) (w : Vec Ideal S1024x512 .bf16) (r : Fin 256) (j : Fin 512) :
    (k0_pay18 x w (ix2 r j) : EReal) = ∑ k : Fin 1024, (x (ix2 r k) : EReal) * w (ix2 k j) := by
  unfold k0_pay18
  simp only [shapeCast_self]
  exact mm (φ₁ := .bf16) (φ₂ := .bf16) (M := 256) (K := 1024) (N := 512) none _ rfl _ _ _ _

theorem pay19_apply (x : FVec Ideal S256x1024 .bf16) (w : Vec Ideal S1024x512 .bf16) (r : Fin 256) (j : Fin 512) :
    (k0_pay19 x w (ix2 r j) : EReal) = ∑ k : Fin 1024, (x (ix2 r k) : EReal) * w (ix2 k j) := by
  unfold k0_pay19
  simp only [shapeCast_self]
  exact mm (φ₁ := .bf16) (φ₂ := .bf16) (M := 256) (K := 1024) (N := 512) none _ rfl _ _ _ _

theorem pay20_apply (x : FVec Ideal S256x1024 .bf16) (w : Vec Ideal S1024x256 .bf16) (r : Fin 256) (j : Fin 256) :
    (k0_pay20 x w (ix2 r j) : EReal) = ∑ k : Fin 1024, (x (ix2 r k) : EReal) * w (ix2 k j) := by
  unfold k0_pay20
  simp only [shapeCast_self]
  exact mm (φ₁ := .bf16) (φ₂ := .bf16) (M := 256) (K := 1024) (N := 256) none _ rfl _ _ _ _

theorem pay21_apply (x : FVec Ideal S256x1024 .bf16) (w : Vec Ideal S1024x512 .bf16) (r : Fin 256) (j : Fin 512) :
    (k0_pay21 x w (ix2 r j) : EReal) = ∑ k : Fin 1024, (x (ix2 r k) : EReal) * w (ix2 k j) := by
  unfold k0_pay21
  simp only [shapeCast_self]
  exact mm (φ₁ := .bf16) (φ₂ := .bf16) (M := 256) (K := 1024) (N := 512) none _ rfl _ _ _ _

theorem pay5_apply (x : FVec Ideal S256x1024 .bf16) (w : Vec Ideal S1024x128 .bf16) (r : Fin 256) (j : Fin 128) :
    (k0_pay5 x w (ix2 r j) : EReal) = ∑ k : Fin 1024, (x (ix2 r k) : EReal) * w (ix2 k j) := by
  unfold k0_pay5
  simp only [shapeCast_self]
  exact mm (φ₁ := .bf16) (φ₂ := .bf16) (M := 256) (K := 1024) (N := 128) none _ rfl _ _ _ _

/-- The first of the four column groups, as a block of its own. -/
theorem pay1_apply (x : FVec Ideal S256x1024 .bf16) (w : Vec Ideal S1024x512 .bf16) (r : Fin 256) (j : Fin 128) :
    k0_pay1 (k0_pay22 x w) (ValueIdx.ix4 (0 : Fin 1) (0 : Fin 1) r j) = k0_pay21 x w (ix2 r (⟨0 + j.val, by omega⟩ : Fin 512)) := by
  unfold k0_pay1 k0_pay22
  generalize k0_pay21 x w = v
  pointwise

/-- The second of the four column groups, as a block of its own. -/
theorem pay2_apply (v : FVec Ideal S256x512 .f32) (r : Fin 256) (j : Fin 128) :
    k0_pay2 v (ValueIdx.ix4 (0 : Fin 1) (0 : Fin 1) r j) = v (ix2 r (⟨128 + j.val, by omega⟩ : Fin 512)) := by
  unfold k0_pay2
  pointwise

/-- The third of the four column groups, as a block of its own. -/
theorem pay3_apply (v : FVec Ideal S256x512 .f32) (r : Fin 256) (j : Fin 128) :
    k0_pay3 v (ValueIdx.ix4 (0 : Fin 1) (0 : Fin 1) r j) = v (ix2 r (⟨256 + j.val, by omega⟩ : Fin 512)) := by
  unfold k0_pay3
  pointwise

/-- The fourth of the four column groups, as a block of its own. -/
theorem pay4_apply (v : FVec Ideal S256x512 .f32) (r : Fin 256) (j : Fin 128) :
    k0_pay4 v (ValueIdx.ix4 (0 : Fin 1) (0 : Fin 1) r j) = v (ix2 r (⟨384 + j.val, by omega⟩ : Fin 512)) := by
  unfold k0_pay4
  pointwise

variable (m : (ℓ : Loc nD τ sig) → Buf (Elt Ideal) ℓ) (c : Dev nD)

/-- A grid point's normalised rows. -/
def xn (t : Fin cfg0.N) : FVec Ideal S256x1024 .bf16 := k0_pay6 (iblk m c 0 t) (iblk m c 1 t)

/-- A row of a grid point times a column of the reordered weight (by natural numbers; nothing is read outside the block). -/
def col (t : Fin cfg0.N) (r q : ℕ) : EReal :=
  if h : r < 256 ∧ q < 7552 then ∑ k : Fin 1024, (xn m c t (ix2 ⟨r, h.1⟩ k) : EReal) * iblk m c 2 t (ix2 k (⟨q, h.2⟩ : Fin 7552)) else 0

/-- What the body reads of the rows and the gain. -/
theorem rows_eq (t : Fin cfg0.N) :
    View.readAt (Elt Ideal) (ms0_0 t).view (Rect.unit ![0, 0] S256x1024.size inb_S256x1024_S256x1024_0_0).toLoadRect ((hs0_0 t).unread (iblk m c 0 t)) = iblk m c 0 t :=
  whole_ld (Val := Elt Ideal) (hs0_0 t) (iblk m c 0 t) zero2 inb_S256x1024_S256x1024_0_0

theorem gain_eq (t : Fin cfg0.N) :
    View.readAt (Elt Ideal) (ms0_1 t).view (Rect.unit ![0, 0] S1x1024.size inb_S1x1024_S1x1024_0_0).toLoadRect ((hs0_1 t).unread (iblk m c 1 t)) = iblk m c 1 t :=
  whole_ld (Val := Elt Ideal) (hs0_1 t) (iblk m c 1 t) zero2 inb_S1x1024_S1x1024_0_0

/-- The normalised rows of what the body reads. -/
theorem read_xn (t : Fin cfg0.N) :
    k0_pay6 (View.readAt (Elt Ideal) (ms0_0 t).view (Rect.unit ![0, 0] S256x1024.size inb_S256x1024_S256x1024_0_0).toLoadRect ((hs0_0 t).unread (iblk m c 0 t)))
      (View.readAt (Elt Ideal) (ms0_1 t).view (Rect.unit ![0, 0] S1x1024.size inb_S1x1024_S1x1024_0_0).toLoadRect ((hs0_1 t).unread (iblk m c 1 t))) = xn m c t := by
  rw [rows_eq, gain_eq]
  rfl

/-- So the rows that the products take are the normalised rows. -/
theorem xn_eq (t : Fin cfg0.N) : kernelRun0_A.sl.r c (ms0_0 t) (hs0_0 t) (ms0_1 t) (hs0_1 t) (iblk m c 0 t) (iblk m c 1 t) = xn m c t := by
  unfold kernelRun0_A.sl.r
  exact read_xn m c t

/-- A product with `n` columns of the weight from column `off` on. -/
theorem product (t : Fin cfg0.N) (n off : ℕ) (hn : off + n ≤ 7552) (inb : ∀ a, (![0, off] : Fin 2 → ℕ) a + (![1024, n] : Fin 2 → ℕ) a ≤ S1024x7552.size a)
    (x : FVec Ideal S256x1024 .bf16) (hx : x = xn m c t) (w : Vec Ideal ⟨2, ![1024, n]⟩ .bf16)
    (hw : w = View.readAt (Elt Ideal) (ms0_2 t).view (Rect.unit ![0, off] ![1024, n] inb).toLoadRect ((hs0_2 t).unread (iblk m c 2 t)))
    (r : Fin 256) (j : Fin n) :
    (∑ k : Fin 1024, (x (ix2 r k) : EReal) * w (ix2 k j)) = col m c t r.val (off + j.val) := by
  subst hx hw
  unfold col
  rw [dif_pos ⟨r.isLt, by omega⟩]
  refine Finset.sum_congr rfl fun k _ => congrArg (_ * ·) ?_
  rw [(hs0_2 t).readAt_unread]
  refine congrArg (iblk m c 2 t) (funext fun a => Fin.ext ?_)
  match a with
  | ⟨0, _⟩ => show 0 + 1 * k.val = k.val; omega
  | ⟨1, _⟩ => show off + 1 * j.val = off + j.val; omega

set_option maxHeartbeats 1000000 in
/-- Output 1's block after a grid point: columns from 0 on of the product. -/
theorem out3_apply (t : Fin cfg0.N) (y : S256x4608.Idx) : (outsAt0 m c t).1 y = col m c t (y 0).val (0 + (y 1).val) := by
  unfold outsAt0
  dsimp only
  unfold out0_A_3
  rw [View.read_writes_junk_eq_canon]
  refine View.canon_apply_of_pieces (fun y => col m c t (y 0).val (0 + (y 1).val)) _ ?_ y (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) y)
  intro pc hpc
  dsimp only [kernelRun0_A] at hpc
  rcases List.mem_cons.mp hpc with rfl | hpc
  · intro x
    obtain ⟨r, j, rfl⟩ : ∃ (r : Fin 256) (j : Fin 512), x = ix2 r j := ⟨x 0, x 1, ValueIdx.eq_ix2 x⟩
    refine (pay15_apply _ _ r j).trans ((product m c t 512 4096 (by omega) inb_S1024x7552_S1024x512_0_4096 _ (xn_eq m c t) _ rfl r j).trans ?_)
    show col m c t r.val (4096 + j.val) = col m c t (0 + 1 * r.val) (0 + (4096 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay14_apply _ _ r j).trans ((product m c t 512 3584 (by omega) inb_S1024x7552_S1024x512_0_3584 _ (xn_eq m c t) _ rfl r j).trans ?_)
    show col m c t r.val (3584 + j.val) = col m c t (0 + 1 * r.val) (0 + (3584 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay13_apply _ _ r j).trans ((product m c t 512 3072 (by omega) inb_S1024x7552_S1024x512_0_3072 _ (xn_eq m c t) _ rfl r j).trans ?_)
    show col m c t r.val (3072 + j.val) = col m c t (0 + 1 * r.val) (0 + (3072 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay12_apply _ _ r j).trans ((product m c t 512 2560 (by omega) inb_S1024x7552_S1024x512_0_2560 _ (xn_eq m c t) _ rfl r j).trans ?_)
    show col m c t r.val (2560 + j.val) = col m c t (0 + 1 * r.val) (0 + (2560 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay11_apply _ _ r j).trans ((product m c t 512 2048 (by omega) inb_S1024x7552_S1024x512_0_2048 _ (xn_eq m c t) _ rfl r j).trans ?_)
    show col m c t r.val (2048 + j.val) = col m c t (0 + 1 * r.val) (0 + (2048 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay10_apply _ _ r j).trans ((product m c t 512 1536 (by omega) inb_S1024x7552_S1024x512_0_1536 _ (xn_eq m c t) _ rfl r j).trans ?_)
    show col m c t r.val (1536 + j.val) = col m c t (0 + 1 * r.val) (0 + (1536 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay9_apply _ _ _ r j).trans ((product m c t 512 1024 (by omega) inb_S1024x7552_S1024x512_0_1024 _ (read_xn m c t) _ rfl r j).trans ?_)
    show col m c t r.val (1024 + j.val) = col m c t (0 + 1 * r.val) (0 + (1024 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay8_apply _ _ _ r j).trans ((product m c t 512 512 (by omega) inb_S1024x7552_S1024x512_0_512 _ (read_xn m c t) _ rfl r j).trans ?_)
    show col m c t r.val (512 + j.val) = col m c t (0 + 1 * r.val) (0 + (512 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay7_apply _ _ _ r j).trans ((product m c t 512 0 (by omega) inb_S1024x7552_S1024x512_0_0 _ (read_xn m c t) _ rfl r j).trans ?_)
    show col m c t r.val (0 + j.val) = col m c t (0 + 1 * r.val) (0 + (0 + 1 * j.val))
    congr 1 <;> omega
  nomatch hpc

/-- Output 2's block after a grid point: columns from 4608 on of the product. -/
theorem out4_apply (t : Fin cfg0.N) (y : S256x1024.Idx) : (outsAt0 m c t).2.1 y = col m c t (y 0).val (4608 + (y 1).val) := by
  unfold outsAt0
  dsimp only
  unfold out0_A_4
  rw [View.read_writes_junk_eq_canon]
  refine View.canon_apply_of_pieces (fun y => col m c t (y 0).val (4608 + (y 1).val)) _ ?_ y (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) y)
  intro pc hpc
  dsimp only [kernelRun0_A] at hpc
  rcases List.mem_cons.mp hpc with rfl | hpc
  · intro x
    obtain ⟨r, j, rfl⟩ : ∃ (r : Fin 256) (j : Fin 512), x = ix2 r j := ⟨x 0, x 1, ValueIdx.eq_ix2 x⟩
    refine (pay17_apply _ _ r j).trans ((product m c t 512 5120 (by omega) inb_S1024x7552_S1024x512_0_5120 _ (xn_eq m c t) _ rfl r j).trans ?_)
    show col m c t r.val (5120 + j.val) = col m c t (0 + 1 * r.val) (4608 + (512 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay16_apply _ _ r j).trans ((product m c t 512 4608 (by omega) inb_S1024x7552_S1024x512_0_4608 _ (xn_eq m c t) _ rfl r j).trans ?_)
    show col m c t r.val (4608 + j.val) = col m c t (0 + 1 * r.val) (4608 + (0 + 1 * j.val))
    congr 1 <;> omega
  nomatch hpc

/-- Output 3's block after a grid point: columns from 5632 on of the product. -/
theorem out5_apply (t : Fin cfg0.N) (y : S256x512.Idx) : (outsAt0 m c t).2.2.1 y = col m c t (y 0).val (5632 + (y 1).val) := by
  unfold outsAt0
  dsimp only
  unfold out0_A_5
  rw [View.read_writes_junk_eq_canon]
  refine View.canon_apply_of_pieces (fun y => col m c t (y 0).val (5632 + (y 1).val)) _ ?_ y (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) y)
  intro pc hpc
  dsimp only [kernelRun0_A] at hpc
  rcases List.mem_cons.mp hpc with rfl | hpc
  · intro x
    obtain ⟨r, j, rfl⟩ : ∃ (r : Fin 256) (j : Fin 512), x = ix2 r j := ⟨x 0, x 1, ValueIdx.eq_ix2 x⟩
    refine (pay18_apply _ _ r j).trans ((product m c t 512 5632 (by omega) inb_S1024x7552_S1024x512_0_5632 _ (xn_eq m c t) _ rfl r j).trans ?_)
    show col m c t r.val (5632 + j.val) = col m c t (0 + 1 * r.val) (5632 + (0 + 1 * j.val))
    congr 1 <;> omega
  nomatch hpc

/-- Output 4's block after a grid point: columns from 6144 on of the product. -/
theorem out6_apply (t : Fin cfg0.N) (y : S256x768.Idx) : (outsAt0 m c t).2.2.2.1 y = col m c t (y 0).val (6144 + (y 1).val) := by
  unfold outsAt0
  dsimp only
  unfold out0_A_6
  rw [View.read_writes_junk_eq_canon]
  refine View.canon_apply_of_pieces (fun y => col m c t (y 0).val (6144 + (y 1).val)) _ ?_ y (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) y)
  intro pc hpc
  dsimp only [kernelRun0_A] at hpc
  rcases List.mem_cons.mp hpc with rfl | hpc
  · intro x
    obtain ⟨r, j, rfl⟩ : ∃ (r : Fin 256) (j : Fin 256), x = ix2 r j := ⟨x 0, x 1, ValueIdx.eq_ix2 x⟩
    refine (pay20_apply _ _ r j).trans ((product m c t 256 6656 (by omega) inb_S1024x7552_S1024x256_0_6656 _ (xn_eq m c t) _ rfl r j).trans ?_)
    show col m c t r.val (6656 + j.val) = col m c t (0 + 1 * r.val) (6144 + (512 + 1 * j.val))
    congr 1 <;> omega
  rcases List.mem_cons.mp hpc with rfl | hpc
  · intro x
    obtain ⟨r, j, rfl⟩ : ∃ (r : Fin 256) (j : Fin 512), x = ix2 r j := ⟨x 0, x 1, ValueIdx.eq_ix2 x⟩
    refine (pay19_apply _ _ r j).trans ((product m c t 512 6144 (by omega) inb_S1024x7552_S1024x512_0_6144 _ (xn_eq m c t) _ rfl r j).trans ?_)
    show col m c t r.val (6144 + j.val) = col m c t (0 + 1 * r.val) (6144 + (0 + 1 * j.val))
    congr 1 <;> omega
  nomatch hpc

/-- Output 6's block after a grid point: columns from 7424 on of the product. -/
theorem out8_apply (t : Fin cfg0.N) (y : S256x128.Idx) : (outsAt0 m c t).2.2.2.2.2 y = col m c t (y 0).val (7424 + (y 1).val) := by
  unfold outsAt0
  dsimp only
  unfold out0_A_8
  rw [View.read_writes_junk_eq_canon]
  refine View.canon_apply_of_pieces (fun y => col m c t (y 0).val (7424 + (y 1).val)) _ ?_ y (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) y)
  intro pc hpc
  dsimp only [kernelRun0_A] at hpc
  rcases List.mem_cons.mp hpc with rfl | hpc
  · intro x
    obtain ⟨r, j, rfl⟩ : ∃ (r : Fin 256) (j : Fin 128), x = ix2 r j := ⟨x 0, x 1, ValueIdx.eq_ix2 x⟩
    refine (pay5_apply _ _ r j).trans ((product m c t 128 7424 (by omega) inb_S1024x7552_S1024x128_0_7424 _ (xn_eq m c t) _ rfl r j).trans ?_)
    show col m c t r.val (7424 + j.val) = col m c t (0 + 1 * r.val) (7424 + (0 + 1 * j.val))
    congr 1 <;> omega
  nomatch hpc

/-- The fifth output's block after a grid point: four groups of 128 columns of the product. -/
theorem out7_apply (t : Fin cfg0.N) (y : S1x4x256x128.Idx) :
    (outsAt0 m c t).2.2.2.2.1 y = col m c t (y 2).val (6912 + (128 * (y 1).val + (y 3).val)) := by
  unfold outsAt0
  dsimp only
  unfold out0_A_7
  rw [View.read_writes_junk_eq_canon]
  refine View.canon_apply_of_pieces (fun y => col m c t (y 2).val (6912 + (128 * (y 1).val + (y 3).val))) _ ?_ y (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) y)
  intro pc hpc
  dsimp only [kernelRun0_A] at hpc
  rcases List.mem_cons.mp hpc with rfl | hpc
  · intro x
    obtain ⟨r, j, rfl⟩ : ∃ (r : Fin 256) (j : Fin 128), x = ValueIdx.ix4 (0 : Fin 1) (0 : Fin 1) r j :=
      ⟨x 2, x 3, (ValueIdx.eq_ix4 x).trans (congrArg₂ (fun a b : Fin 1 => ValueIdx.ix4 a b (x 2) (x 3)) (Subsingleton.elim (α := Fin 1) (x 0) 0) (Subsingleton.elim (α := Fin 1) (x 1) 0))⟩
    refine (pay4_apply _ r j).trans ((pay21_apply _ _ r _).trans
      ((product m c t 512 6912 (by omega) inb_S1024x7552_S1024x512_0_6912 _ (xn_eq m c t) _ rfl r (⟨384 + j.val, by omega⟩ : Fin 512)).trans ?_))
    show col m c t r.val (6912 + (384 + j.val)) = col m c t (0 + 1 * r.val) (6912 + (128 * (3 + 1 * 0) + (0 + 1 * j.val)))
    congr 1 <;> omega
  rcases List.mem_cons.mp hpc with rfl | hpc
  · intro x
    obtain ⟨r, j, rfl⟩ : ∃ (r : Fin 256) (j : Fin 128), x = ValueIdx.ix4 (0 : Fin 1) (0 : Fin 1) r j :=
      ⟨x 2, x 3, (ValueIdx.eq_ix4 x).trans (congrArg₂ (fun a b : Fin 1 => ValueIdx.ix4 a b (x 2) (x 3)) (Subsingleton.elim (α := Fin 1) (x 0) 0) (Subsingleton.elim (α := Fin 1) (x 1) 0))⟩
    refine (pay3_apply _ r j).trans ((pay21_apply _ _ r _).trans
      ((product m c t 512 6912 (by omega) inb_S1024x7552_S1024x512_0_6912 _ (xn_eq m c t) _ rfl r (⟨256 + j.val, by omega⟩ : Fin 512)).trans ?_))
    show col m c t r.val (6912 + (256 + j.val)) = col m c t (0 + 1 * r.val) (6912 + (128 * (2 + 1 * 0) + (0 + 1 * j.val)))
    congr 1 <;> omega
  rcases List.mem_cons.mp hpc with rfl | hpc
  · intro x
    obtain ⟨r, j, rfl⟩ : ∃ (r : Fin 256) (j : Fin 128), x = ValueIdx.ix4 (0 : Fin 1) (0 : Fin 1) r j :=
      ⟨x 2, x 3, (ValueIdx.eq_ix4 x).trans (congrArg₂ (fun a b : Fin 1 => ValueIdx.ix4 a b (x 2) (x 3)) (Subsingleton.elim (α := Fin 1) (x 0) 0) (Subsingleton.elim (α := Fin 1) (x 1) 0))⟩
    refine (pay2_apply _ r j).trans ((pay21_apply _ _ r _).trans
      ((product m c t 512 6912 (by omega) inb_S1024x7552_S1024x512_0_6912 _ (xn_eq m c t) _ rfl r (⟨128 + j.val, by omega⟩ : Fin 512)).trans ?_))
    show col m c t r.val (6912 + (128 + j.val)) = col m c t (0 + 1 * r.val) (6912 + (128 * (1 + 1 * 0) + (0 + 1 * j.val)))
    congr 1 <;> omega
  rcases List.mem_cons.mp hpc with rfl | hpc
  · intro x
    obtain ⟨r, j, rfl⟩ : ∃ (r : Fin 256) (j : Fin 128), x = ValueIdx.ix4 (0 : Fin 1) (0 : Fin 1) r j :=
      ⟨x 2, x 3, (ValueIdx.eq_ix4 x).trans (congrArg₂ (fun a b : Fin 1 => ValueIdx.ix4 a b (x 2) (x 3)) (Subsingleton.elim (α := Fin 1) (x 0) 0) (Subsingleton.elim (α := Fin 1) (x 1) 0))⟩
    refine (pay1_apply _ _ r j).trans ((pay21_apply _ _ r _).trans
      ((product m c t 512 6912 (by omega) inb_S1024x7552_S1024x512_0_6912 _ (xn_eq m c t) _ rfl r (⟨0 + j.val, by omega⟩ : Fin 512)).trans ?_))
    show col m c t r.val (6912 + (0 + j.val)) = col m c t (0 + 1 * r.val) (6912 + (128 * (0 + 1 * 0) + (0 + 1 * j.val)))
    congr 1 <;> omega
  nomatch hpc

end Cert.Kernel6Ideal.Body

end
-- ==== Proof.Proj.Array.lean ====
/-
  The input projection's six output arrays after its run, entry by entry: grid point `t` writes rows `256 t …`, and an entry is
  the normalised row times one column of the weight.
-/
module

public import proofs.«01_k».proof.Proof.Proj.Plain
public import proofs.«01_k».proof.Proof.Proj.Block

@[expose] public section

set_option maxRecDepth 16384

noncomputable section

namespace Cert.Kernel6Ideal.Body

open Cert.Kernel6Ideal Cert.Kernel6Ideal.Gen Idealize.ShloMosaic Idealize.ShloMosaic.TcCoe

/-- The columns that hold the last three fields of the weight. -/
def tail (w : FVec Ideal S1024x7440 .f32) : FVec Ideal S1024x1296 .f32 := extractStridedSlice S1024x1296 ![0, 5632] w slices_S1024x7440_S1024x1296_0_5632

/-- The weight with its columns reordered, padded with zero columns. -/
def weights (w : FVec Ideal S1024x7440 .f32) : FVec Ideal S1024x7552 .f32 :=
  concatenate S1024x7552 1 [⟨S1024x4608, (extractStridedSlice S1024x4608 ![0, 0] w slices_S1024x7440_S1024x4608_0_0 : FVec Ideal S1024x4608 .f32)⟩,
    ⟨S1024x1024, (extractStridedSlice S1024x1024 ![0, 4608] w slices_S1024x7440_S1024x1024_0_4608 : FVec Ideal S1024x1024 .f32)⟩,
    ⟨S1024x512, (extractStridedSlice S1024x512 ![0, 0] (tail w) slices_S1024x1296_S1024x512_0_0 : FVec Ideal S1024x512 .f32)⟩,
    ⟨S1024x768, (extractStridedSlice S1024x768 ![0, 512] (tail w) slices_S1024x1296_S1024x768_0_512 : FVec Ideal S1024x768 .f32)⟩,
    ⟨S1024x512, (extractStridedSlice S1024x512 ![0, 6928] w slices_S1024x7440_S1024x512_0_6928 : FVec Ideal S1024x512 .f32)⟩,
    ⟨S1024x16, (extractStridedSlice S1024x16 ![0, 1280] (tail w) slices_S1024x1296_S1024x16_0_1280 : FVec Ideal S1024x16 .f32)⟩,
    ⟨S1024x112, (broadcastInDim S1024x112 ![] bcast_S_S1024x112 (constant S_ .f32 0x00000000#32) : FVec Ideal S1024x112 .f32)⟩]
    concatenates_S1024x4608_S1024x1024_S1024x512_S1024x768_S1024x512_S1024x16_S1024x112_S1024x7552_d1

theorem weights_w0 (w : FVec Ideal S1024x7440 .f32) (k : Fin 1024) (j : Fin 4608) :
    weights w (ix2 k (⟨0 + j.val, by omega⟩ : Fin 7552)) = w (ix2 k (⟨0 + j.val, by omega⟩ : Fin 7440)) := by
  unfold weights tail
  pointwise

theorem weights_w1 (w : FVec Ideal S1024x7440 .f32) (k : Fin 1024) (j : Fin 1024) :
    weights w (ix2 k (⟨4608 + j.val, by omega⟩ : Fin 7552)) = w (ix2 k (⟨4608 + j.val, by omega⟩ : Fin 7440)) := by
  unfold weights tail
  pointwise

theorem weights_w2 (w : FVec Ideal S1024x7440 .f32) (k : Fin 1024) (j : Fin 512) :
    weights w (ix2 k (⟨5632 + j.val, by omega⟩ : Fin 7552)) = w (ix2 k (⟨5632 + j.val, by omega⟩ : Fin 7440)) := by
  unfold weights tail
  pointwise
  rw [dif_neg (by omega : ¬ (5632 + j.val < 4608)), dif_neg (by omega : ¬ (5632 + j.val - 4608 < 1024)), dif_pos (by omega : 5632 + j.val - 4608 - 1024 < 512)]
  exact congrArg (fun q => w (ix2 k q)) (Fin.ext (by simp only []; omega))

theorem weights_w3 (w : FVec Ideal S1024x7440 .f32) (k : Fin 1024) (j : Fin 768) :
    weights w (ix2 k (⟨6144 + j.val, by omega⟩ : Fin 7552)) = w (ix2 k (⟨6144 + j.val, by omega⟩ : Fin 7440)) := by
  unfold weights tail
  pointwise
  rw [dif_neg (by omega : ¬ (6144 + j.val < 4608)), dif_neg (by omega : ¬ (6144 + j.val - 4608 < 1024)), dif_neg (by omega : ¬ (6144 + j.val - 4608 - 1024 < 512)), dif_pos (by omega : 6144 + j.val - 4608 - 1024 - 512 < 768)]
  exact congrArg (fun q => w (ix2 k q)) (Fin.ext (by simp only []; omega))

theorem weights_w4 (w : FVec Ideal S1024x7440 .f32) (k : Fin 1024) (j : Fin 512) :
    weights w (ix2 k (⟨6912 + j.val, by omega⟩ : Fin 7552)) = w (ix2 k (⟨6928 + j.val, by omega⟩ : Fin 7440)) := by
  unfold weights tail
  pointwise
  rw [dif_neg (by omega : ¬ (6912 + j.val < 4608)), dif_neg (by omega : ¬ (6912 + j.val - 4608 < 1024)), dif_neg (by omega : ¬ (6912 + j.val - 4608 - 1024 < 512)), dif_neg (by omega : ¬ (6912 + j.val - 4608 - 1024 - 512 < 768)), dif_pos (by omega : 6912 + j.val - 4608 - 1024 - 512 - 768 < 512)]
  exact congrArg (fun q => w (ix2 k q)) (Fin.ext (by simp only []; omega))

theorem weights_w5 (w : FVec Ideal S1024x7440 .f32) (k : Fin 1024) (j : Fin 16) :
    weights w (ix2 k (⟨7424 + j.val, by omega⟩ : Fin 7552)) = w (ix2 k (⟨6912 + j.val, by omega⟩ : Fin 7440)) := by
  unfold weights tail
  pointwise
  rw [dif_neg (by omega : ¬ (7424 + j.val < 4608)), dif_neg (by omega : ¬ (7424 + j.val - 4608 < 1024)), dif_neg (by omega : ¬ (7424 + j.val - 4608 - 1024 < 512)), dif_neg (by omega : ¬ (7424 + j.val - 4608 - 1024 - 512 < 768)), dif_neg (by omega : ¬ (7424 + j.val - 4608 - 1024 - 512 - 768 < 512)), dif_pos (by omega : 7424 + j.val - 4608 - 1024 - 512 - 768 - 512 < 16)]
  exact congrArg (fun q => w (ix2 k q)) (Fin.ext (by simp only []; omega))

theorem weights_w6 (w : FVec Ideal S1024x7440 .f32) (k : Fin 1024) (j : Fin 112) :
    weights w (ix2 k (⟨7440 + j.val, by omega⟩ : Fin 7552)) = (0 : EReal) := by
  unfold weights tail
  pointwise
  rw [dif_neg (by omega : ¬ (7440 + j.val < 4608)), dif_neg (by omega : ¬ (7440 + j.val - 4608 < 1024)), dif_neg (by omega : ¬ (7440 + j.val - 4608 - 1024 < 512)), dif_neg (by omega : ¬ (7440 + j.val - 4608 - 1024 - 512 < 768)), dif_neg (by omega : ¬ (7440 + j.val - 4608 - 1024 - 512 - 768 < 512)), dif_neg (by omega : ¬ (7440 + j.val - 4608 - 1024 - 512 - 768 - 512 < 16))]

variable (m : (ℓ : Loc nD τ sig) → Buf (Elt Ideal) ℓ) (c : Dev nD)

/-- The blocks at each grid point. -/
theorem index_rows : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_8.index t = ![t.val, 0] ∧ win0_7.index t = ![t.val / 32, 0, t.val % 32, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_8.index t = ![t.val, 0] ∧ win0_7.index t = ![t.val / 32, 0, t.val % 32, 0])

/-- Grid point `t`'s block of the rows is rows `256 t …` of the first argument. -/
theorem blk0 (t : Fin 256) (r : Fin 256) (d : Fin 1024) :
    iblk m c 0 t (ix2 r d) = m ((c : Thread nD τ).loc main_arg0) (ix2 (⟨256 * t.val + r.val, by omega⟩ : Fin 65536) d) := by
  refine Eq.trans (congrArg (V m c (Pipeline.arrRef spec0 0)) (?_ : _ = ix2 (⟨256 * t.val + r.val, by omega⟩ : Fin 65536) d)) (congrFun (V_main_arg0 m c) _)
  funext a
  have hi := (index_rows t).1
  match a with
  | ⟨0, _⟩ => exact Fin.ext (by show win0_0.index t 0 * 256 + 1 * r.val = 256 * t.val + r.val; rw [hi]; simp; omega)
  | ⟨1, _⟩ => exact Fin.ext (by show win0_0.index t 1 * 1024 + 1 * d.val = d.val; rw [hi]; simp)

/-- The gain reaches the call as a matrix of one row. -/
theorem V_v0 : V m c main_v0 = (broadcastInDim S1x1024 ![1] bcast_S1024_S1x1024_1 (m ((c : Thread nD τ).loc main_arg1)) : FVec Ideal S1x1024 .f32) := by
  show StableHlo.after hostOps0 (fun b => m (c, b)) main_v0 = _
  after_results_simp

/-- The gain's block is the gain. -/
theorem blk1 (t : Fin 256) (d : Fin 1024) : iblk m c 1 t (ix2 0 d) = m ((c : Thread nD τ).loc main_arg1) (ix1 d) := by
  refine Eq.trans (congrArg (V m c (Pipeline.arrRef spec0 1)) (?_ : _ = ix2 (0 : Fin 1) d)) ((congrFun (V_v0 m c) _).trans ?_)
  · funext a
    have hi := (index_rows t).2.1
    match a with
    | ⟨0, _⟩ => exact Fin.ext (by show win0_1.index t 0 * 1 + 1 * 0 = 0; rw [hi]; simp)
    | ⟨1, _⟩ => exact Fin.ext (by show win0_1.index t 1 * 1024 + 1 * d.val = d.val; rw [hi]; simp)
  · pointwise

/-- The weight reaches the call reordered and in the narrower format, which rounds nothing here. -/
theorem V_v10 : V m c main_v10 = (truncf .bf16 (weights (m ((c : Thread nD τ).loc main_arg2))) bitsLt_bf16_f32 : FVec Ideal S1024x7552 .bf16) := by
  show StableHlo.after hostOps0 (fun b => m (c, b)) main_v10 = _
  after_results_simp
  rfl

/-- The weight is read whole at every grid point. -/
theorem blk2 (t : Fin 256) (k : Fin 1024) (q : Fin 7552) : (iblk m c 2 t (ix2 k q) : EReal) = weights (m ((c : Thread nD τ).loc main_arg2)) (ix2 k q) := by
  refine Eq.trans (congrArg (V m c (Pipeline.arrRef spec0 2)) (?_ : _ = ix2 k q)) (congrFun (V_v10 m c) _)
  funext a
  have hi := (index_rows t).2.2.1
  match a with
  | ⟨0, _⟩ => exact Fin.ext (by show win0_2.index t 0 * 1024 + 1 * k.val = k.val; rw [hi]; simp)
  | ⟨1, _⟩ => exact Fin.ext (by show win0_2.index t 1 * 7552 + 1 * q.val = q.val; rw [hi]; simp)

/-- A row of the first argument. -/
def row (R : Fin 65536) (k : Fin 1024) : EReal := m ((c : Thread nD τ).loc main_arg0) (ix2 R k)

/-- The gain. -/
def gain (k : Fin 1024) : EReal := m ((c : Thread nD τ).loc main_arg1) (ix1 k)

/-- A row of a grid point's product is that row of the first argument, normalised, times the reordered weight. -/
theorem col_eq (t : Fin 256) (r : Fin 256) (q : ℕ) (hq : q < 7552) :
    col m c t r.val q = Layer.proj (row m c ⟨256 * t.val + r.val, by omega⟩) (gain m c) (fun k => weights (m ((c : Thread nD τ).loc main_arg2)) (ix2 k (⟨q, hq⟩ : Fin 7552))) := by
  unfold col
  rw [dif_pos ⟨r.isLt, hq⟩]
  unfold Layer.proj
  refine Finset.sum_congr rfl fun k _ => ?_
  rw [blk2 m c t k]
  refine congrArg (· * _) ?_
  refine (pay6_apply _ _ r k).trans ?_
  have e0 := fun k => blk0 m c t r k
  have e1 := fun k => blk1 m c t k
  simp only [e0, e1]
  rfl

/-- A row number is a grid point and a row of its block. -/
theorem split_row (R : Fin 65536) : ∃ (t : Fin 256) (r : Fin 256), R = ⟨256 * t.val + r.val, by omega⟩ :=
  ⟨⟨R.val / 256, by omega⟩, ⟨R.val % 256, by omega⟩, Fin.ext (by show R.val = 256 * (R.val / 256) + R.val % 256; omega)⟩

/-- Output 1 at row `256 t + r` is the product that grid point `t` stores at row `r`. -/
theorem final3 (t : Fin 256) (r : Fin 256) (j : Fin 4608) :
    (dats m 0 c).arrAt 3 cfg0.N (ix2 (⟨256 * t.val + r.val, by omega⟩ : Fin 65536) j) = col m c t r.val (0 + j.val) := by
  have h := congrFun ((Value.blocks3 m c t (flush0_3 t)).trans (Value.flushed3 m c t)) (ix2 r j)
  refine Eq.trans (congrArg ((dats m 0 c).arrAt 3 cfg0.N) ?_) (h.trans (out3_apply m c t (ix2 r j)))
  funext a
  have hi := (index_rows t).2.2.2.1
  match a with
  | ⟨0, _⟩ => exact Fin.ext (by show 256 * t.val + r.val = win0_3.index t 0 * 256 + 1 * r.val; rw [hi]; simp; omega)
  | ⟨1, _⟩ => exact Fin.ext (by show j.val = win0_3.index t 1 * 4608 + 1 * j.val; rw [hi]; simp)

/-- So an entry of output 1 is a normalised row times a column of the weight. -/
theorem array3 (R : Fin 65536) (j : Fin 4608) :
    (dats m 0 c).arrAt 3 cfg0.N (ix2 R j) = Layer.proj (row m c R) (gain m c) (fun k => m ((c : Thread nD τ).loc main_arg2) (ix2 k (⟨0 + j.val, by omega⟩ : Fin 7440))) := by
  obtain ⟨t, r, rfl⟩ := split_row R
  refine (final3 m c t r j).trans ((col_eq m c t r _ (by omega)).trans (congrArg (Layer.proj _ _) (funext fun k => ?_)))
  exact weights_w0 _ k j

/-- Output 2 at row `256 t + r` is the product that grid point `t` stores at row `r`. -/
theorem final4 (t : Fin 256) (r : Fin 256) (j : Fin 1024) :
    (dats m 0 c).arrAt 4 cfg0.N (ix2 (⟨256 * t.val + r.val, by omega⟩ : Fin 65536) j) = col m c t r.val (4608 + j.val) := by
  have h := congrFun ((Value.blocks4 m c t (flush0_4 t)).trans (Value.flushed4 m c t)) (ix2 r j)
  refine Eq.trans (congrArg ((dats m 0 c).arrAt 4 cfg0.N) ?_) (h.trans (out4_apply m c t (ix2 r j)))
  funext a
  have hi := (index_rows t).2.2.2.2.1
  match a with
  | ⟨0, _⟩ => exact Fin.ext (by show 256 * t.val + r.val = win0_4.index t 0 * 256 + 1 * r.val; rw [hi]; simp; omega)
  | ⟨1, _⟩ => exact Fin.ext (by show j.val = win0_4.index t 1 * 1024 + 1 * j.val; rw [hi]; simp)

/-- So an entry of output 2 is a normalised row times a column of the weight. -/
theorem array4 (R : Fin 65536) (j : Fin 1024) :
    (dats m 0 c).arrAt 4 cfg0.N (ix2 R j) = Layer.proj (row m c R) (gain m c) (fun k => m ((c : Thread nD τ).loc main_arg2) (ix2 k (⟨4608 + j.val, by omega⟩ : Fin 7440))) := by
  obtain ⟨t, r, rfl⟩ := split_row R
  refine (final4 m c t r j).trans ((col_eq m c t r _ (by omega)).trans (congrArg (Layer.proj _ _) (funext fun k => ?_)))
  exact weights_w1 _ k j

/-- Output 3 at row `256 t + r` is the product that grid point `t` stores at row `r`. -/
theorem final5 (t : Fin 256) (r : Fin 256) (j : Fin 512) :
    (dats m 0 c).arrAt 5 cfg0.N (ix2 (⟨256 * t.val + r.val, by omega⟩ : Fin 65536) j) = col m c t r.val (5632 + j.val) := by
  have h := congrFun ((Value.blocks5 m c t (flush0_5 t)).trans (Value.flushed5 m c t)) (ix2 r j)
  refine Eq.trans (congrArg ((dats m 0 c).arrAt 5 cfg0.N) ?_) (h.trans (out5_apply m c t (ix2 r j)))
  funext a
  have hi := (index_rows t).2.2.2.2.2.1
  match a with
  | ⟨0, _⟩ => exact Fin.ext (by show 256 * t.val + r.val = win0_5.index t 0 * 256 + 1 * r.val; rw [hi]; simp; omega)
  | ⟨1, _⟩ => exact Fin.ext (by show j.val = win0_5.index t 1 * 512 + 1 * j.val; rw [hi]; simp)

/-- So an entry of output 3 is a normalised row times a column of the weight. -/
theorem array5 (R : Fin 65536) (j : Fin 512) :
    (dats m 0 c).arrAt 5 cfg0.N (ix2 R j) = Layer.proj (row m c R) (gain m c) (fun k => m ((c : Thread nD τ).loc main_arg2) (ix2 k (⟨5632 + j.val, by omega⟩ : Fin 7440))) := by
  obtain ⟨t, r, rfl⟩ := split_row R
  refine (final5 m c t r j).trans ((col_eq m c t r _ (by omega)).trans (congrArg (Layer.proj _ _) (funext fun k => ?_)))
  exact weights_w2 _ k j

/-- Output 4 at row `256 t + r` is the product that grid point `t` stores at row `r`. -/
theorem final6 (t : Fin 256) (r : Fin 256) (j : Fin 768) :
    (dats m 0 c).arrAt 6 cfg0.N (ix2 (⟨256 * t.val + r.val, by omega⟩ : Fin 65536) j) = col m c t r.val (6144 + j.val) := by
  have h := congrFun ((Value.blocks6 m c t (flush0_6 t)).trans (Value.flushed6 m c t)) (ix2 r j)
  refine Eq.trans (congrArg ((dats m 0 c).arrAt 6 cfg0.N) ?_) (h.trans (out6_apply m c t (ix2 r j)))
  funext a
  have hi := (index_rows t).2.2.2.2.2.2.1
  match a with
  | ⟨0, _⟩ => exact Fin.ext (by show 256 * t.val + r.val = win0_6.index t 0 * 256 + 1 * r.val; rw [hi]; simp; omega)
  | ⟨1, _⟩ => exact Fin.ext (by show j.val = win0_6.index t 1 * 768 + 1 * j.val; rw [hi]; simp)

/-- So an entry of output 4 is a normalised row times a column of the weight. -/
theorem array6 (R : Fin 65536) (j : Fin 768) :
    (dats m 0 c).arrAt 6 cfg0.N (ix2 R j) = Layer.proj (row m c R) (gain m c) (fun k => m ((c : Thread nD τ).loc main_arg2) (ix2 k (⟨6144 + j.val, by omega⟩ : Fin 7440))) := by
  obtain ⟨t, r, rfl⟩ := split_row R
  refine (final6 m c t r j).trans ((col_eq m c t r _ (by omega)).trans (congrArg (Layer.proj _ _) (funext fun k => ?_)))
  exact weights_w3 _ k j

/-- Output 6 at row `256 t + r` is the product that grid point `t` stores at row `r`. -/
theorem final8 (t : Fin 256) (r : Fin 256) (j : Fin 128) :
    (dats m 0 c).arrAt 8 cfg0.N (ix2 (⟨256 * t.val + r.val, by omega⟩ : Fin 65536) j) = col m c t r.val (7424 + j.val) := by
  have h := congrFun ((Value.blocks8 m c t (flush0_8 t)).trans (Value.flushed8 m c t)) (ix2 r j)
  refine Eq.trans (congrArg ((dats m 0 c).arrAt 8 cfg0.N) ?_) (h.trans (out8_apply m c t (ix2 r j)))
  funext a
  have hi := (index_rows t).2.2.2.2.2.2.2.1
  match a with
  | ⟨0, _⟩ => exact Fin.ext (by show 256 * t.val + r.val = win0_8.index t 0 * 256 + 1 * r.val; rw [hi]; simp; omega)
  | ⟨1, _⟩ => exact Fin.ext (by show j.val = win0_8.index t 1 * 128 + 1 * j.val; rw [hi]; simp)

/-- The first 16 columns of the sixth output. -/
theorem array8 (R : Fin 65536) (j : Fin 16) :
    (dats m 0 c).arrAt 8 cfg0.N (ix2 R (⟨j.val, by omega⟩ : Fin 128)) = Layer.proj (row m c R) (gain m c) (fun k => m ((c : Thread nD τ).loc main_arg2) (ix2 k (⟨6912 + j.val, by omega⟩ : Fin 7440))) := by
  obtain ⟨t, r, rfl⟩ := split_row R
  refine (final8 m c t r ⟨j.val, by omega⟩).trans ((col_eq m c t r _ (by show 7424 + j.val < 7552; omega)).trans (congrArg (Layer.proj _ _) (funext fun k => ?_)))
  exact weights_w5 _ k j

/-- Its other columns are zero. -/
theorem array8_zero (R : Fin 65536) (j : Fin 112) :
    (dats m 0 c).arrAt 8 cfg0.N (ix2 R (⟨16 + j.val, by omega⟩ : Fin 128)) = (0 : EReal) := by
  obtain ⟨t, r, rfl⟩ := split_row R
  refine (final8 m c t r ⟨16 + j.val, by omega⟩).trans ((col_eq m c t r _ (by show 7424 + (16 + j.val) < 7552; omega)).trans ?_)
  refine (congrArg (Layer.proj _ _) (funext fun k => ?_)).trans (Layer.proj_zero (row m c ⟨256 * t.val + r.val, by omega⟩) (gain m c))
  refine Eq.trans (congrArg (fun q => weights (m ((c : Thread nD τ).loc main_arg2)) (ix2 k q)) (Fin.ext ?_)) (weights_w6 _ k j)
  show 7424 + (16 + j.val) = 7440 + j.val
  omega

/-- The blocks of the fifth output lie apart. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (by
    have e : win0_7.index t = win0_7.index t' := h
    rw [(index_rows t).2.2.2.2.2.2.2.2, (index_rows t').2.2.2.2.2.2.2.2] at e
    have e0 : t.val / 32 = t'.val / 32 := congrFun e 0
    have e2 : t.val % 32 = t'.val % 32 := congrFun e 2
    exact Fin.ext (by omega))

/-- The fifth output, at batch `t / 32` and position `256 (t % 32) + r`, is the product that grid point `t` stores. -/
theorem final7 (t : Fin 256) (g : Fin 4) (r : Fin 256) (j : Fin 128) :
    (dats m 0 c).arrAt 7 cfg0.N (ValueIdx.ix4 (⟨t.val / 32, by omega⟩ : Fin 8) g (⟨256 * (t.val % 32) + r.val, by omega⟩ : Fin 8192) j)
      = col m c t r.val (6912 + (128 * g.val + j.val)) := by
  have h := congrFun (((dats m 0 c).read_blk_arrAt_eq_flushed 7 disjoint7 cfg0.N t t.isLt (flush0_7 t)).trans (Value.flushed7 m c t)) (ValueIdx.ix4 (0 : Fin 1) g r j)
  refine Eq.trans (congrArg ((dats m 0 c).arrAt 7 cfg0.N) ?_) (h.trans (out7_apply m c t (ValueIdx.ix4 (0 : Fin 1) g r j)))
  funext a
  have hi := (index_rows t).2.2.2.2.2.2.2.2
  match a with
  | ⟨0, _⟩ => exact Fin.ext (by show t.val / 32 = win0_7.index t 0 * 1 + 1 * 0; rw [hi]; simp)
  | ⟨1, _⟩ => exact Fin.ext (by show g.val = win0_7.index t 1 * 4 + 1 * g.val; rw [hi]; simp)
  | ⟨2, _⟩ => exact Fin.ext (by show 256 * (t.val % 32) + r.val = win0_7.index t 2 * 256 + 1 * r.val; rw [hi]; simp; omega)
  | ⟨3, _⟩ => exact Fin.ext (by show j.val = win0_7.index t 3 * 128 + 1 * j.val; rw [hi]; simp)

/-- So an entry of the fifth output is a normalised row times a column of the weight. -/
theorem array7 (b : Fin 8) (g : Fin 4) (s : Fin 8192) (j : Fin 128) :
    (dats m 0 c).arrAt 7 cfg0.N (ValueIdx.ix4 b g s j)
      = Layer.proj (row m c ⟨8192 * b.val + s.val, by omega⟩) (gain m c) (fun k => m ((c : Thread nD τ).loc main_arg2) (ix2 k (⟨6928 + (128 * g.val + j.val), by omega⟩ : Fin 7440))) := by
  obtain ⟨t, r, hb, hs⟩ : ∃ (t : Fin 256) (r : Fin 256), b = ⟨t.val / 32, by omega⟩ ∧ s = ⟨256 * (t.val % 32) + r.val, by omega⟩ :=
    ⟨⟨32 * b.val + s.val / 256, by omega⟩, ⟨s.val % 256, by omega⟩, Fin.ext (by show b.val = (32 * b.val + s.val / 256) / 32; omega),
      Fin.ext (by show s.val = 256 * ((32 * b.val + s.val / 256) % 32) + s.val % 256; omega)⟩
  subst hb hs
  refine (final7 m c t g r j).trans ((col_eq m c t r _ (by omega)).trans ?_)
  refine congr (congrFun (congrArg Layer.proj (congrArg (row m c) (Fin.ext ?_))) _) (funext fun k => ?_)
  · show 256 * t.val + r.val = 8192 * (t.val / 32) + (256 * (t.val % 32) + r.val)
    omega
  · exact weights_w4 _ k ⟨128 * g.val + j.val, by omega⟩

end Cert.Kernel6Ideal.Body

end
-- ==== Proof.Proj.Host.lean ====
/-
  The input projection's reference, entry by entry: normalised rows times columns of the weight, cut into six fields.
-/
module

public import proofs.«01_k».proof.Proof.Proj.Plain
public import proofs.«01_k».proof.Proof.Gen.Reference6Ideal.Run

@[expose] public section

set_option maxRecDepth 16384

noncomputable section

namespace Cert.Reference6Ideal.Body

open Cert.Reference6Ideal Cert.Reference6Ideal.Gen Cert.Reference6Ideal.Value Idealize.ShloMosaic Idealize.ShloMosaic.TcCoe

/-- The normalised tokens, as an array. -/
def normed (h : FVec Ideal S65536x1024 .f32) (g : FVec Ideal S1024 .f32) : FVec Ideal S65536x1024 .f32 :=
  mulf (mulf h (broadcastInDim S65536x1024 ![0, 1] bcast_S65536x1_S65536x1024_0_1 (Host.rsqrt (addf (Host.divf (broadcastInDim S65536x1 ![0] bcast_S65536_S65536x1_0 (Host.reduceAdd (mulf h h) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

theorem normed_apply (h : FVec Ideal S65536x1024 .f32) (g : FVec Ideal S1024 .f32) (R : Fin 65536) (d : Fin 1024) :
    normed h g (ix2 R d) = Layer.unit (fun k => h (ix2 R k)) (fun k => g (ix1 k)) d := by
  unfold normed Layer.unit
  pointwise

/-- The whole product. -/
def product (h : FVec Ideal S65536x1024 .f32) (g : FVec Ideal S1024 .f32) (w : FVec Ideal S1024x7440 .f32) : FVec Ideal S65536x7440 .f32 :=
  Host.dotGeneral dot_S65536x1024_S1024x7440_S65536x7440_1_0_0_1_n_n none (normed h g) w

theorem product_apply (h : FVec Ideal S65536x1024 .f32) (g : FVec Ideal S1024 .f32) (w : FVec Ideal S1024x7440 .f32) (R : Fin 65536) (q : Fin 7440) :
    product h g w (ix2 R q) = Layer.proj (fun k => h (ix2 R k)) (fun k => g (ix1 k)) (fun k => w (ix2 k q)) := by
  unfold product Layer.proj
  have e := fun k => normed_apply h g R k
  generalize normed h g = x at e
  simp only [← e]
  pointwise

/-- The last three of the first five fields' columns. -/
def tail (u : FVec Ideal S65536x7440 .f32) : FVec Ideal S65536x1296 .f32 := extractStridedSlice S65536x1296 ![0, 5632] u slices_S65536x7440_S65536x1296_0_5632

/-- The fields, from the product. -/
def field0 (u : FVec Ideal S65536x7440 .f32) : FVec Ideal S65536x4608 .bf16 := truncf .bf16 (extractStridedSlice S65536x4608 ![0, 0] u slices_S65536x7440_S65536x4608_0_0) bitsLt_bf16_f32
def field1 (u : FVec Ideal S65536x7440 .f32) : FVec Ideal S65536x1024 .f32 := extractStridedSlice S65536x1024 ![0, 4608] u slices_S65536x7440_S65536x1024_0_4608
def field2 (u : FVec Ideal S65536x7440 .f32) : FVec Ideal S65536x512 .f32 := extractStridedSlice S65536x512 ![0, 0] (tail u) slices_S65536x1296_S65536x512_0_0
def field3 (u : FVec Ideal S65536x7440 .f32) : FVec Ideal S65536x768 .f32 := extractStridedSlice S65536x768 ![0, 512] (tail u) slices_S65536x1296_S65536x768_0_512
def field4 (u : FVec Ideal S65536x7440 .f32) : FVec Ideal S8x4x8192x128 .f32 :=
  transpose S8x4x8192x128 [0, 2, 1, 3] (shapeCast S8x8192x4x128 (extractStridedSlice S65536x512 ![0, 6928] u slices_S65536x7440_S65536x512_0_6928) shapeCasts_S65536x512_S8x8192x4x128) transposes_S8x8192x4x128_S8x4x8192x128_0_2_1_3
def field5 (u : FVec Ideal S65536x7440 .f32) : FVec Ideal S65536x128 .f32 :=
  pad S65536x128 ![0, 0] ![0, 112] ![0, 0] (extractStridedSlice S65536x16 ![0, 1280] (tail u) slices_S65536x1296_S65536x16_0_1280) (sitofp .f32 (constantI S_ 32 0#32)) pads_S65536x16_S65536x128_000_01120 h_S_

theorem field0_apply (u : FVec Ideal S65536x7440 .f32) (R : Fin 65536) (j : Fin 4608) : (field0 u (ix2 R j) : EReal) = u (ix2 R (⟨0 + j.val, by omega⟩ : Fin 7440)) := by
  unfold field0
  pointwise

theorem field1_apply (u : FVec Ideal S65536x7440 .f32) (R : Fin 65536) (j : Fin 1024) : field1 u (ix2 R j) = u (ix2 R (⟨4608 + j.val, by omega⟩ : Fin 7440)) := by
  unfold field1
  pointwise

theorem field2_apply (u : FVec Ideal S65536x7440 .f32) (R : Fin 65536) (j : Fin 512) : field2 u (ix2 R j) = u (ix2 R (⟨5632 + j.val, by omega⟩ : Fin 7440)) := by
  unfold field2 tail
  pointwise

theorem field3_apply (u : FVec Ideal S65536x7440 .f32) (R : Fin 65536) (j : Fin 768) : field3 u (ix2 R j) = u (ix2 R (⟨6144 + j.val, by omega⟩ : Fin 7440)) := by
  unfold field3 tail
  pointwise
  exact congrArg (fun q => u (ix2 R q)) (Fin.ext (by simp only []; omega))

theorem field4_apply (u : FVec Ideal S65536x7440 .f32) (b : Fin 8) (g : Fin 4) (s : Fin 8192) (j : Fin 128) :
    field4 u (ValueIdx.ix4 b g s j) = u (ix2 (⟨8192 * b.val + s.val, by omega⟩ : Fin 65536) (⟨6928 + (128 * g.val + j.val), by omega⟩ : Fin 7440)) := by
  unfold field4
  pointwise
  refine congrArg u (congr (congrArg ix2 (Fin.ext ?_)) (Fin.ext ?_))
  · show b.val * 8192 + s.val = 8192 * b.val + s.val
    omega
  · show 6928 + (g.val * 128 + j.val) = 6928 + (128 * g.val + j.val)
    omega

theorem field5_apply (u : FVec Ideal S65536x7440 .f32) (R : Fin 65536) (j : Fin 16) :
    field5 u (ix2 R (⟨j.val, by omega⟩ : Fin 128)) = u (ix2 R (⟨6912 + j.val, by omega⟩ : Fin 7440)) := by
  unfold field5 tail
  pointwise
  exact congrArg (fun q => u (ix2 R q)) (Fin.ext (by simp only []; omega))

theorem field5_zero (u : FVec Ideal S65536x7440 .f32) (R : Fin 65536) (j : Fin 112) :
    field5 u (ix2 R (⟨16 + j.val, by omega⟩ : Fin 128)) = (0 : EReal) := by
  unfold field5 tail
  pointwise
  show (((0#32 : BitVec 32).toInt : ℝ) : EReal) = 0
  simp

end Cert.Reference6Ideal.Body

end
-- ==== Proof.Proj.Claims.lean ====
/-
  The input projection's claims: the reference's frame, and the equality of the six results.
-/
module

public import proofs.«01_k».proof.Defs
public import proofs.«01_k».proof.Proof.Proj.Array
public import proofs.«01_k».proof.Proof.Proj.Host
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The projecting reference runs to its end and leaves its arguments as they were. -/
theorem proj_host_frame : Cert.quiescent_Reference6Ideal (hReference6Ideal := Cert.Reference6Ideal.Gen.facts) := fun m ρ _ =>
  (θ_run _ _ _).mono (fun r h => ⟨fun c => (h c).2.2.2.2.2.2, sem_eq_zero_of_no_sems (by decide) r.2⟩) (Cert.Reference6Ideal.Value.run m ρ)

open Cert.Reference6Ideal.Body in
/-- From equal arguments the projecting kernel and its reference end with six equal results. -/
theorem proj_algebraic : Cert.algebraic_Kernel6Ideal_Reference6Ideal (hKernel6Ideal := Cert.Kernel6Ideal.Gen.facts)
    (hReference6Ideal := Cert.Reference6Ideal.Gen.facts) := by
  intro m ρ m' ρ' _ hm
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N, Cert.Kernel6Ideal.Value.run_blocks m ρ,
    (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference6Ideal.Value.run m' ρ')⟩
  all_goals
    obtain ⟨h0, h1, h2⟩ := hm c
    rw [h0, h1, h2]
    funext i
  · obtain ⟨R, d, rfl⟩ : ∃ (R : Fin 65536) (d : Fin 4608), i = ix2 R d := ⟨i 0, i 1, ValueIdx.eq_ix2 i⟩
    exact (field0_apply (product _ _ _) R d).trans ((product_apply _ _ _ R _).trans (Cert.Kernel6Ideal.Body.array3 m c R d).symm)
  · obtain ⟨R, d, rfl⟩ : ∃ (R : Fin 65536) (d : Fin 1024), i = ix2 R d := ⟨i 0, i 1, ValueIdx.eq_ix2 i⟩
    exact (field1_apply (product _ _ _) R d).trans ((product_apply _ _ _ R _).trans (Cert.Kernel6Ideal.Body.array4 m c R d).symm)
  · obtain ⟨R, d, rfl⟩ : ∃ (R : Fin 65536) (d : Fin 512), i = ix2 R d := ⟨i 0, i 1, ValueIdx.eq_ix2 i⟩
    exact (field2_apply (product _ _ _) R d).trans ((product_apply _ _ _ R _).trans (Cert.Kernel6Ideal.Body.array5 m c R d).symm)
  · obtain ⟨R, d, rfl⟩ : ∃ (R : Fin 65536) (d : Fin 768), i = ix2 R d := ⟨i 0, i 1, ValueIdx.eq_ix2 i⟩
    exact (field3_apply (product _ _ _) R d).trans ((product_apply _ _ _ R _).trans (Cert.Kernel6Ideal.Body.array6 m c R d).symm)
  · obtain ⟨b, g, s, d, rfl⟩ : ∃ (b : Fin 8) (g : Fin 4) (s : Fin 8192) (d : Fin 128), i = ValueIdx.ix4 b g s d :=
      ⟨i 0, i 1, i 2, i 3, ValueIdx.eq_ix4 i⟩
    exact (field4_apply (product _ _ _) b g s d).trans ((product_apply _ _ _ _ _).trans (Cert.Kernel6Ideal.Body.array7 m c b g s d).symm)
  · obtain ⟨R, q, rfl⟩ : ∃ (R : Fin 65536) (q : Fin 128), i = ix2 R q := ⟨i 0, i 1, ValueIdx.eq_ix2 i⟩
    by_cases hq : q.val < 16
    · exact (field5_apply (product _ _ _) R ⟨q.val, hq⟩).trans ((product_apply _ _ _ R _).trans (Cert.Kernel6Ideal.Body.array8 m c R ⟨q.val, hq⟩).symm)
    · obtain ⟨d, rfl⟩ : ∃ d : Fin 112, q = ⟨16 + d.val, by clear hq; omega⟩ := ⟨⟨q.val - 16, by omega⟩, Fin.ext (by show q.val = 16 + (q.val - 16); omega)⟩
      exact (field5_zero (product _ _ _) R d).trans (Cert.Kernel6Ideal.Body.array8_zero m c R d).symm

end Cert.Proof

end
-- ==== Proof.lean ====
/-
  The proof of `Cert.Claim`. The calls' parts stand in Proof/Ffn, Proof/Moe, Proof/Mix, Proof/Norm and Proof/Proj,
  the mathematics they share in Proof/Layer.
-/
module

public import proofs.«01_k».proof.Defs
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Pre_finite
public import proofs.«01_k».proof.Proof.Ffn.Claims
public import proofs.«01_k».proof.Proof.Moe.Claims
public import proofs.«01_k».proof.Proof.Mix.Claims
public import proofs.«01_k».proof.Proof.Norm.Claims
public import proofs.«01_k».proof.Proof.Proj.Claims

@[expose] public section

noncomputable section

namespace Cert.Proof

open Idealize.ShloMosaic Idealize.SL.Sem

/-- Every claim: the frames, the preserved programs, and the two equalities with the references. -/
theorem claim : Cert.Claim :=
  ⟨Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts,
    fun m ρ _ => Cert.Kernel2.Gen.frame m ρ, fun m ρ _ => Cert.Kernel2Ideal.Gen.frame m ρ, ffn_host_frame,
    fun m ρ _ => Cert.Kernel3.Gen.frame m ρ, fun m ρ _ => Cert.Kernel3Ideal.Gen.frame m ρ,
    fun m ρ _ => Cert.Kernel3Ideal.Gen.frame m ρ, moe_host_frame, fun m ρ _ => moe_host_frame m ρ trivial,
    fun m ρ _ => Cert.Kernel4.Gen.frame m ρ, fun m ρ _ => Cert.Kernel4Ideal.Gen.frame m ρ, mix_host_frame,
    fun m ρ _ => Cert.Kernel5.Gen.frame m ρ, fun m ρ _ => Cert.Kernel5Ideal.Gen.frame m ρ, norm_host_frame,
    fun m ρ _ => Cert.Kernel6.Gen.frame m ρ, fun m ρ _ => Cert.Kernel6Ideal.Gen.frame m ρ, proj_host_frame,
    trivial, ffn_algebraic, trivial, moe_algebraic, trivial, mix_algebraic, trivial, norm_algebraic, trivial, proj_algebraic⟩

end Cert.Proof

end
